-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![8192]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S1024x8192 : Shape := ⟨2, ![1024, 8192]⟩
abbrev S8192 : Shape := ⟨1, ![8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S1024x8192 .f32) (main_arg1 : FVec F S8192 .f32) (main_arg2 : FVec F S8192 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S1024x512 : Shape := ⟨2, ![1024, 512]⟩
abbrev S512 : Shape := ⟨1, ![512]⟩
abbrev S16x2x1024 : Shape := ⟨3, ![16, 2, 1024]⟩
abbrev S16 : Shape := ⟨1, ![16]⟩
abbrev S_ : Shape := ⟨0, ![]⟩
abbrev S1024 : Shape := ⟨1, ![1024]⟩
abbrev S1x1x1024 : Shape := ⟨3, ![1, 1, 1024]⟩
abbrev S1 : Shape := ⟨1, ![1]⟩
abbrev S1x2x1024 : Shape := ⟨3, ![1, 2, 1024]⟩
abbrev S2x1024 : Shape := ⟨2, ![2, 1024]⟩
abbrev S1x512 : Shape := ⟨2, ![1, 512]⟩
abbrev S1x1024 : Shape := ⟨2, ![1, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S512, .f32⟩
  | .hbm, ⟨3, _⟩ => ⟨S1024x512, .f32⟩
  | .local _ .vmem, ⟨0, _⟩ => ⟨S512, .f32⟩
  | .local _ .vmem, ⟨1, _⟩ => ⟨S512, .f32⟩
  | .local _ .vmem, ⟨2, _⟩ => ⟨S1024x512, .f32⟩
  | .local _ .vmem, ⟨3, _⟩ => ⟨S1024x512, .f32⟩
  | .local _ .vmem, ⟨4, _⟩ => ⟨S16x2x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_68 : BitVec 32 := 1#32
  let v74 : BitVec 32 := Scalar.addi v2 c1_i32_68
  let c16_i32_69 : BitVec 32 := 16#32
  let v75 : BitVec 32 := Scalar.remsi v74 c16_i32_69
  let c1_i32_74 : BitVec 32 := 1#32
  let v76 : BitVec 32 := Scalar.muli v75 c1_i32_74
  let v77 : BitVec 32 := Scalar.addi c0_i32_75 v76
  v77.toNat
def k0_dev17 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v86 : BitVec 32 := Scalar.addi v2 c2_i32_80
  let c16_i32_81 : BitVec 32 := 16#32
  let v87 : BitVec 32 := Scalar.remsi v86 c16_i32_81
  let c1_i32_86 : BitVec 32 := 1#32
  let v88 : BitVec 32 := Scalar.muli v87 c1_i32_86
  let v89 : BitVec 32 := Scalar.addi c0_i32_87 v88
  v89.toNat
def k0_dev18 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_92 : BitVec 32 := 3#32
  let v98 : BitVec 32 := Scalar.addi v2 c3_i32_92
  let c16_i32_93 : BitVec 32 := 16#32
  let v99 : BitVec 32 := Scalar.remsi v98 c16_i32_93
  let c1_i32_98 : BitVec 32 := 1#32
  let v100 : BitVec 32 := Scalar.muli v99 c1_i32_98
  let v101 : BitVec 32 := Scalar.addi c0_i32_99 v100
  v101.toNat
def k0_dev19 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_104 : BitVec 32 := 4#32
  let v110 : BitVec 32 := Scalar.addi v2 c4_i32_104
  let c16_i32_105 : BitVec 32 := 16#32
  let v111 : BitVec 32 := Scalar.remsi v110 c16_i32_105
  let c1_i32_110 : BitVec 32 := 1#32
  let v112 : BitVec 32 := Scalar.muli v111 c1_i32_110
  let v113 : BitVec 32 := Scalar.addi c0_i32_111 v112
  v113.toNat
def k0_dev20 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_116 : BitVec 32 := 5#32
  let v122 : BitVec 32 := Scalar.addi v2 c5_i32_116
  let c16_i32_117 : BitVec 32 := 16#32
  let v123 : BitVec 32 := Scalar.remsi v122 c16_i32_117
  let c1_i32_122 : BitVec 32 := 1#32
  let v124 : BitVec 32 := Scalar.muli v123 c1_i32_122
  let v125 : BitVec 32 := Scalar.addi c0_i32_123 v124
  v125.toNat
def k0_dev21 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_128 : BitVec 32 := 6#32
  let v134 : BitVec 32 := Scalar.addi v2 c6_i32_128
  let c16_i32_129 : BitVec 32 := 16#32
  let v135 : BitVec 32 := Scalar.remsi v134 c16_i32_129
  let c1_i32_134 : BitVec 32 := 1#32
  let v136 : BitVec 32 := Scalar.muli v135 c1_i32_134
  let v137 : BitVec 32 := Scalar.addi c0_i32_135 v136
  v137.toNat
def k0_dev22 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_140 : BitVec 32 := 7#32
  let v146 : BitVec 32 := Scalar.addi v2 c7_i32_140
  let c16_i32_141 : BitVec 32 := 16#32
  let v147 : BitVec 32 := Scalar.remsi v146 c16_i32_141
  let c1_i32_146 : BitVec 32 := 1#32
  let v148 : BitVec 32 := Scalar.muli v147 c1_i32_146
  let v149 : BitVec 32 := Scalar.addi c0_i32_147 v148
  v149.toNat
def k0_dev23 (d0 : Dev nD) : Nat :=
  let c0_i32_159 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_152 : BitVec 32 := 8#32
  let v158 : BitVec 32 := Scalar.addi v2 c8_i32_152
  let c16_i32_153 : BitVec 32 := 16#32
  let v159 : BitVec 32 := Scalar.remsi v158 c16_i32_153
  let c1_i32_158 : BitVec 32 := 1#32
  let v160 : BitVec 32 := Scalar.muli v159 c1_i32_158
  let v161 : BitVec 32 := Scalar.addi c0_i32_159 v160
  v161.toNat
def k0_dev24 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_164 : BitVec 32 := 9#32
  let v170 : BitVec 32 := Scalar.addi v2 c9_i32_164
  let c16_i32_165 : BitVec 32 := 16#32
  let v171 : BitVec 32 := Scalar.remsi v170 c16_i32_165
  let c1_i32_170 : BitVec 32 := 1#32
  let v172 : BitVec 32 := Scalar.muli v171 c1_i32_170
  let v173 : BitVec 32 := Scalar.addi c0_i32_171 v172
  v173.toNat
def k0_dev25 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_176 : BitVec 32 := 10#32
  let v182 : BitVec 32 := Scalar.addi v2 c10_i32_176
  let c16_i32_177 : BitVec 32 := 16#32
  let v183 : BitVec 32 := Scalar.remsi v182 c16_i32_177
  let c1_i32_182 : BitVec 32 := 1#32
  let v184 : BitVec 32 := Scalar.muli v183 c1_i32_182
  let v185 : BitVec 32 := Scalar.addi c0_i32_183 v184
  v185.toNat
def k0_dev26 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_188 : BitVec 32 := 11#32
  let v194 : BitVec 32 := Scalar.addi v2 c11_i32_188
  let c16_i32_189 : BitVec 32 := 16#32
  let v195 : BitVec 32 := Scalar.remsi v194 c16_i32_189
  let c1_i32_194 : BitVec 32 := 1#32
  let v196 : BitVec 32 := Scalar.muli v195 c1_i32_194
  let v197 : BitVec 32 := Scalar.addi c0_i32_195 v196
  v197.toNat
def k0_dev27 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_200 : BitVec 32 := 12#32
  let v206 : BitVec 32 := Scalar.addi v2 c12_i32_200
  let c16_i32_201 : BitVec 32 := 16#32
  let v207 : BitVec 32 := Scalar.remsi v206 c16_i32_201
  let c1_i32_206 : BitVec 32 := 1#32
  let v208 : BitVec 32 := Scalar.muli v207 c1_i32_206
  let v209 : BitVec 32 := Scalar.addi c0_i32_207 v208
  v209.toNat
def k0_dev28 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_212 : BitVec 32 := 13#32
  let v218 : BitVec 32 := Scalar.addi v2 c13_i32_212
  let c16_i32_213 : BitVec 32 := 16#32
  let v219 : BitVec 32 := Scalar.remsi v218 c16_i32_213
  let c1_i32_218 : BitVec 32 := 1#32
  let v220 : BitVec 32 := Scalar.muli v219 c1_i32_218
  let v221 : BitVec 32 := Scalar.addi c0_i32_219 v220
  v221.toNat
def k0_dev29 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_224 : BitVec 32 := 14#32
  let v230 : BitVec 32 := Scalar.addi v2 c14_i32_224
  let c16_i32_225 : BitVec 32 := 16#32
  let v231 : BitVec 32 := Scalar.remsi v230 c16_i32_225
  let c1_i32_230 : BitVec 32 := 1#32
  let v232 : BitVec 32 := Scalar.muli v231 c1_i32_230
  let v233 : BitVec 32 := Scalar.addi c0_i32_231 v232
  v233.toNat
def k0_dev30 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_236 : BitVec 32 := 15#32
  let v242 : BitVec 32 := Scalar.addi v2 c15_i32_236
  let c16_i32_237 : BitVec 32 := 16#32
  let v243 : BitVec 32 := Scalar.remsi v242 c16_i32_237
  let c1_i32_242 : BitVec 32 := 1#32
  let v244 : BitVec 32 := Scalar.muli v243 c1_i32_242
  let v245 : BitVec 32 := Scalar.addi c0_i32_243 v244
  v245.toNat
abbrev stage0_0 : Fin 1 → Memref sig .tc .vmem S512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192 : Shape := ⟨1, ![8192]⟩
abbrev S_ : Shape := ⟨0, ![]⟩
abbrev S1024 : Shape := ⟨1, ![1024]⟩
abbrev S1024x1 : Shape := ⟨2, ![1024, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192, .f32⟩
  | .hbm, ⟨2, _⟩ => ⟨S8192, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x8192, .f32⟩
  | .hbm, ⟨17, _⟩ => ⟨S1024x8192, .f32⟩
  | .hbm, ⟨18, _⟩ => ⟨S1024x8192, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x8192, .f32⟩
  | .hbm, ⟨34, _⟩ => ⟨S1024x8192, .f32⟩
  | .hbm, ⟨35, _⟩ => ⟨S1x8192, .f32⟩
  | .hbm, ⟨36, _⟩ => ⟨S1024x8192, .f32⟩
  | .hbm, ⟨37, _⟩ => ⟨S1024x8192, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S1024x8192, .f32⟩
  | .hbm, ⟨43, _⟩ => ⟨S1024x8192, .f32⟩
  | .hbm, ⟨44, _⟩ => ⟨S1x8192, .f32⟩
  | .hbm, ⟨45, _⟩ => ⟨S1024x8192, .f32⟩
  | .hbm, ⟨46, _⟩ => ⟨S1024x8192, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Prog.lean ====
/-
# The kernel's body as a short program

The printed body signals, sends and waits fifteen times over, once for each distance around the mesh. Here it is written
with four loops over lists of distances, its device, slot and semaphore numbers computed from the distance, and shown
equal to the printed one.

A *distance* is an `e : Fin 16`, never `0`: device `d` signals and sends to device `d + e`. It sends out of its slot `0`
into slot `-e` of the peer, so that slot `s` of a device holds what device `d + s` sent.
-/
module

public import proofs.«01_k».proof.Proof.Gen.KernelIdeal
public import proofs.«01_k».proof.Proof.Gen.KernelIdeal.Skeleton
public import Idealize.ShloMosaic.Lib.Tactic

@[expose] public section

noncomputable section

namespace Cert.LayerNorm

open Cert.KernelIdeal Cert.KernelIdeal.Gen
open Idealize.ShloMosaic Idealize.ShloMosaic.TcCoe Idealize.SL.Sem

variable {F : FTy → Type} [FloatOps F]

/-- The body's programs: effects of the tensor core over the kernel's labels. -/
abbrev Body (F : FTy → Type) [FloatOps F] : Type 1 := Prog (TpuEff nD τ sig (Elt F) Λ₀ .tc) PUnit

/-- The device at distance `e` from `d`, as the body computes it for its signals. -/
def sigDev (d : Dev nD) (e : Fin 16) : Dev nD :=
  (![d, ⟨k0_dev1 d, k0_dev1_lt d⟩, ⟨k0_dev2 d, k0_dev2_lt d⟩, ⟨k0_dev3 d, k0_dev3_lt d⟩, ⟨k0_dev4 d, k0_dev4_lt d⟩,
    ⟨k0_dev5 d, k0_dev5_lt d⟩, ⟨k0_dev6 d, k0_dev6_lt d⟩, ⟨k0_dev7 d, k0_dev7_lt d⟩, ⟨k0_dev8 d, k0_dev8_lt d⟩,
    ⟨k0_dev9 d, k0_dev9_lt d⟩, ⟨k0_dev10 d, k0_dev10_lt d⟩, ⟨k0_dev11 d, k0_dev11_lt d⟩, ⟨k0_dev12 d, k0_dev12_lt d⟩,
    ⟨k0_dev13 d, k0_dev13_lt d⟩, ⟨k0_dev14 d, k0_dev14_lt d⟩, ⟨k0_dev15 d, k0_dev15_lt d⟩] : Fin 16 → Dev nD) e

/-- The device at distance `e` from `d`, as the body computes it for its sends. -/
def sendDev (d : Dev nD) (e : Fin 16) : Dev nD :=
  (![d, ⟨k0_dev16 d, k0_dev16_lt d⟩, ⟨k0_dev17 d, k0_dev17_lt d⟩, ⟨k0_dev18 d, k0_dev18_lt d⟩, ⟨k0_dev19 d, k0_dev19_lt d⟩,
    ⟨k0_dev20 d, k0_dev20_lt d⟩, ⟨k0_dev21 d, k0_dev21_lt d⟩, ⟨k0_dev22 d, k0_dev22_lt d⟩, ⟨k0_dev23 d, k0_dev23_lt d⟩,
    ⟨k0_dev24 d, k0_dev24_lt d⟩, ⟨k0_dev25 d, k0_dev25_lt d⟩, ⟨k0_dev26 d, k0_dev26_lt d⟩, ⟨k0_dev27 d, k0_dev27_lt d⟩,
    ⟨k0_dev28 d, k0_dev28_lt d⟩, ⟨k0_dev29 d, k0_dev29_lt d⟩, ⟨k0_dev30 d, k0_dev30_lt d⟩] : Fin 16 → Dev nD) e

/-- Both are `d + e`, around the mesh. -/
theorem sigDev_eq : ∀ (d : Dev nD) (e : Fin 16), sigDev d e = d + e := by decide +kernel
theorem sendDev_eq : ∀ (d : Dev nD) (e : Fin 16), sendDev d e = d + e := by decide +kernel

/-! ## Slots and semaphores -/

abbrev xM : Memref sig .tc .hbm S1024x512 .f32 := Memref.whole main_arg0
abbrev gM : Memref sig .tc .vmem S512 .f32 := Memref.whole cc0_stg0_0
abbrev bM : Memref sig .tc .vmem S512 .f32 := Memref.whole cc0_stg1_0
abbrev oM : Memref sig .tc .vmem S1024x512 .f32 := Memref.whole cc0_stg2_0
abbrev vM : Memref sig .tc .vmem S1024x512 .f32 := Memref.whole cc0_scratch0
abbrev cM : Memref sig .tc .vmem S16x2x1024 .f32 := Memref.whole cc0_scratch1

theorem inb_slot (s : Fin 16) : ∀ a, (![s.val, 0, 0] : Fin 3 → Nat) a + S1x2x1024.size a ≤ S16x2x1024.size a := by
  revert s; decide
theorem inb_sem (s : Fin 16) : ∀ a, (![s.val] : Fin 1 → Nat) a + S1.size a ≤ S16.size a := by
  revert s; decide

/-- Slot `s` of the buffer of statistics, as the sends and waits name it. -/
abbrev slotM (s : Fin 16) : Memref sig .tc .vmem S2x1024 .f32 :=
  (cM.slice (Rect.unit (s := S16x2x1024) ![s.val, 0, 0] S1x2x1024.size (inb_slot s)) (fun _ => rfl)).squeeze S2x1024 squeezes_S1x2x1024_S2x1024
/-- The semaphore the send at distance `e` completes on, at the sender. -/
abbrev sendSem (e : Fin 16) : DmaSem sig :=
  ((cc0_scratch2.slice (Rect.unit (s := S16) ![e.val] S1.size (inb_sem e))).squeeze S_ squeezes_S1_S_).sem
/-- The semaphore the arrival in slot `s` completes on, at the receiver. -/
abbrev recvSem (s : Fin 16) : DmaSem sig :=
  ((cc0_scratch3.slice (Rect.unit (s := S16) ![s.val] S1.size (inb_sem s))).squeeze S_ squeezes_S1_S_).sem
/-- The semaphore of the copy of `x` into local memory. -/
abbrev copySem : DmaSem sig := cc0_scratch4.sem
/-- The barrier semaphore. -/
abbrev barSem : Sem sig := (SemArray.scalar (sig.barrier 0 rfl) : Sems sig S_).sem

/-! ## The four loops -/

/-- One signal to the barrier of the device at each distance. -/
def sigs (d : Dev nD) : List (Fin 16) → Body F → Body F
  | [], k => k
  | e :: l, k => .op (.semSignal (Dev.tc (sigDev d e)) barSem 1) fun _ => sigs d l k

/-- Slot `0` to slot `-e` of the device at each distance `e`. -/
def sends (d : Dev nD) : List (Fin 16) → Body F → Body F
  | [], k => k
  | e :: l, k =>
    .op (.enqueueDma (slotM 0) (.remote (Dev.tc (sendDev d e)) (slotM (-e)) (.dma (sendSem e))) (.dma (recvSem (-e)))
      ((View.wordExact_bits rfl).reshape _ _) ((View.wordExact_bits rfl).reshape _ _) ⟨⟨rfl, Or.inl rfl⟩, trivial⟩) fun _ => sends d l k

/-- The wait for the arrival in slot `-e`, for each distance `e`. -/
def recvWaits : List (Fin 16) → Body F → Body F
  | [], k => k
  | e :: l, k =>
    .op (.waitDma2 (recvSem (-e)) (slotM 0) (slotM (-e)) ((View.wordExact_bits rfl).reshape _ _) ((View.wordExact_bits rfl).reshape _ _)) fun _ => recvWaits l k

/-- The wait for the send at each distance `e` to have left. -/
def sendWaits : List (Fin 16) → Body F → Body F
  | [], k => k
  | e :: l, k =>
    .op (.waitDma2 (sendSem e) (slotM (-e)) (slotM 0) ((View.wordExact_bits rfl).reshape _ _) ((View.wordExact_bits rfl).reshape _ _)) fun _ => sendWaits l k

/-- The distances, in the order of every loop. -/
abbrev dist : List (Fin 16) := [1, 2, 3, 4, 5, 6, 7, 8, 9, 10, 11, 12, 13, 14, 15]

/-! ## The accesses -/

abbrev bigR : Rect S1024x512 := Rect.unit (s := S1024x512) ![0, 0] S1024x512.size inb_S1024x512_S1024x512_0_0
abbrev vecR : Rect S512 := Rect.unit (s := S512) ![0] S512.size inb_S512_S512_0
abbrev allR : Rect S16x2x1024 := Rect.unit (s := S16x2x1024) ![0, 0, 0] S16x2x1024.size inb_S16x2x1024_S16x2x1024_0_0_0
abbrev sumR : Rect S16x2x1024 := Rect.unit (s := S16x2x1024) ![0, 0, 0] S1x1x1024.size inb_S16x2x1024_S1x1x1024_0_0_0
abbrev sqR : Rect S16x2x1024 := Rect.unit (s := S16x2x1024) ![0, 1, 0] S1x1x1024.size inb_S16x2x1024_S1x1x1024_0_1_0

/-- The body's end: the result from the statistics, then the waits for the sends. -/
def tail3 (x : Vec F S1024x512 .f32) (g : Vec F S512 .f32) : Body F :=
  .op (.load cM allR.toLoadRect (View.loadsAt_vmem h_S16x2x1024)) fun st =>
  .op (.load bM vecR.toLoadRect (View.loadsAt_vmem h_S512)) fun b =>
  .op (.load oM bigR.toLoadRect (View.loadsAt_vmem h_S1024x512)) fun o =>
  .op (.load oM bigR.toLoadRect (View.loadsAt_vmem h_S1024x512)) fun _ =>
  .op (.store oM bigR (k0_pay5 (k0_pay3 g) st b o) Finset.univ (View.stores_vmem_bits_univ h_S1024x512 rfl) (.inl rfl)) fun _ =>
  sendWaits dist (.ret ⟨⟩)

/-- From the barrier on: the sends, the product with gamma while they travel, the waits for the arrivals. -/
def tail2 (d : Dev nD) (x : Vec F S1024x512 .f32) : Body F :=
  .op (.semWait barSem 15) fun _ =>
  sends d dist <|
  .op (.load gM vecR.toLoadRect (View.loadsAt_vmem h_S512)) fun g =>
  .op (.load oM bigR.toLoadRect (View.loadsAt_vmem h_S1024x512)) fun _ =>
  .op (.store oM bigR (k0_pay4 x g) Finset.univ (View.stores_vmem_bits_univ h_S1024x512 rfl) (.inl rfl)) fun _ =>
  recvWaits dist (tail3 x g)

/-- The whole body. -/
def prog : Body F :=
  .op .deviceId fun d => sigs d dist <|
  .op (.enqueueDma xM (.here vM) (.dma copySem) (Memref.isWhole_whole _).wordExact (Memref.isWhole_whole _).wordExact ⟨Or.inl rfl, trivial⟩) fun _ =>
  .op (.waitDma2 copySem xM vM (Memref.isWhole_whole _).wordExact (Memref.isWhole_whole _).wordExact) fun _ =>
  .op (.load vM bigR.toLoadRect (View.loadsAt_vmem h_S1024x512)) fun x =>
  .op (.load cM sumR.toLoadRect (View.loadsAt_vmem h_S1x1x1024)) fun _ =>
  .op (.store cM sumR (k0_pay1 x) Finset.univ (View.stores_vmem_bits_univ h_S1x1x1024 rfl) (.inl rfl)) fun _ =>
  .op (.load cM sqR.toLoadRect (View.loadsAt_vmem h_S1x1x1024)) fun _ =>
  .op (.store cM sqR (k0_pay2 x) Finset.univ (View.stores_vmem_bits_univ h_S1x1x1024 rfl) (.inl rfl)) fun _ =>
  tail2 d x

/-- The printed body is `prog`. -/
theorem body_eq : cc0_body (F := F) xM (Memref.isWhole_whole _) gM (Memref.isWhole_whole _) bM (Memref.isWhole_whole _)
    oM (Memref.isWhole_whole _) vM (Memref.isWhole_whole _) cM (Memref.isWhole_whole _) cc0_scratch2 cc0_scratch3 cc0_scratch4 = prog := by
  sl_kernel_rfl

end Cert.LayerNorm

end
-- ==== Proof.Sched.lean ====
/-
# The protocol

Which semaphores the sixteen devices meet on, what each unit or credit put on one of them hands over, what each buffer
holds when it is handed over, and in which order the waits are answered.

* Device `p`'s barrier is signalled once by every other device. The signal of distance `e` comes from device `p - e` and
  hands `p` slot `e` of that device, to be written: it is the slot `p`'s own send to `p - e` lands in.
* Device `p`'s arrival semaphore `s` gets the credit of one send, of device `p + s`: it hands `p` its slot `s`, holding
  the statistics of device `p + s`.
* Device `p`'s departure semaphore `e` gets the credit of `p`'s own send at distance `e`: it hands back the share of
  slot `0` that the send read.
* Device `p`'s copy semaphore gets the credit of the copy of `x`: it hands back `x` and the buffer that holds it now.
-/
module

public import proofs.«01_k».proof.Proof.Prog
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.ShareLeaves

@[expose] public section

noncomputable section

namespace Cert.LayerNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging pipeline's, and this protocol's with duties named by distance -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: contents `m`, every semaphore at zero. -/
def s₀ : MemSt nD τ sig (Elt F) := ⟨m, fun _ => 0, ρ⟩

/-! ## The cells -/

/-- A device's own semaphores: the copy's (`none`), a send's (`(false, e)`), an arrival's (`(true, s)`). -/
abbrev OK : Type := Option (Bool × Fin 16)
/-- All of the protocol's on one device: the barrier (`none`) and its own. -/
abbrev CK : Type := Option OK

abbrev osem : OK → SemLoc sig
  | none => .dma copySem
  | some (false, e) => .dma (sendSem e)
  | some (true, s) => .dma (recvSem s)
abbrev csem : CK → SemLoc sig
  | none => .reg barSem
  | some k => osem k

abbrev barCell (c : Dev nD) : GSem nD τ sig := ((c : Thread nD τ), .reg barSem)
abbrev copyCell (c : Dev nD) : GSem nD τ sig := ((c : Thread nD τ), .dma copySem)
abbrev sendCell (c : Dev nD) (e : Fin 16) : GSem nD τ sig := ((c : Thread nD τ), .dma (sendSem e))
abbrev recvCell (c : Dev nD) (s : Fin 16) : GSem nD τ sig := ((c : Thread nD τ), .dma (recvSem s))
abbrev kcell (ck : Dev nD × CK) : GSem nD τ sig := ((ck.1 : Thread nD τ), csem ck.2)

/-- The semaphore's place in the protocol, if it has one: by number, the staging pipeline's three first, then sixteen of
    sends, sixteen of arrivals, and the copy's. -/
def decode : SemLoc sig → Option CK
  | .reg s => if s = barSem then some none else none
  | .dma q =>
    if q.val < 3 then none
    else if q.val < 19 then some (some (some (false, Fin.ofNat 16 (q.val - 3))))
    else if q.val < 35 then some (some (some (true, Fin.ofNat 16 (q.val - 19))))
    else some (some none)

theorem decode_bar : decode (.reg barSem) = some none := by decide +kernel
theorem decode_copy : decode (.dma copySem) = some (some none) := by decide +kernel
theorem decode_send : ∀ e : Fin 16, decode (.dma (sendSem e)) = some (some (some (false, e))) := by decide +kernel
theorem decode_recv : ∀ s : Fin 16, decode (.dma (recvSem s)) = some (some (some (true, s))) := by decide +kernel
theorem decode_csem : ∀ k : CK, decode (csem k) = some k
  | none => decode_bar
  | some none => decode_copy
  | some (some (false, e)) => decode_send e
  | some (some (true, s)) => decode_recv s

/-- The credit of a send, and of the copy of `x`. -/
def N : ℕ := (slotM 0).view.dmaCredit
def NX : ℕ := (vM).view.dmaCredit
theorem N_pos : 0 < N := View.dmaCredit_pos _ (by decide)
theorem NX_pos : 0 < NX := View.dmaCredit_pos _ (by decide)

/-! ## Contents -/

/-- Device `c`'s blocks of `x`, gamma and beta at launch. -/
def xAt (c : Dev nD) : Vec F S1024x512 .f32 := m ((c : Thread nD τ).loc main_arg0)
def gAt (c : Dev nD) : Vec F S512 .f32 := m ((c : Thread nD τ).loc main_arg1)
def bAt (c : Dev nD) : Vec F S512 .f32 := m ((c : Thread nD τ).loc main_arg2)

/-- The index `(a, b, r)` of a `1×1×1024` vector. -/
def at3 (a b : Fin 1) (r : Fin 1024) : S1x1x1024.Idx := Fin.cons a (Fin.cons b (Fin.cons r (fun i => i.elim0)))

/-- Row `r`'s sum (`j = 0`) or sum of squares (`j = 1`) over device `c`'s columns. -/
def stat (c : Dev nD) (j : ℕ) (r : Fin 1024) : Elt F .f32 :=
  if j = 0 then k0_pay1 (xAt m c) (at3 0 0 r) else k0_pay2 (xAt m c) (at3 0 0 r)

/-- The buffer of statistics on device `p` when all have arrived: slot `s` holds device `p + s`'s. -/
def cAt (p : Dev nD) : Vec F S16x2x1024 .f32 := fun i => stat m (p + Fin.ofNat 16 (i 0).val) (i 1).val (Fin.ofNat 1024 (i 2).val)

/-- The kernel's result on device `c`. -/
def outAt (c : Dev nD) : Vec F S1024x512 .f32 := k0_pay5 (k0_pay3 (gAt m c)) (cAt m c) (bAt m c) (k0_pay4 (xAt m c) (gAt m c))

/-! ## What is handed over -/

abbrev cLoc (c : Dev nD) : Loc nD τ sig := (c : Thread nD τ).loc cc0_scratch1
abbrev slotSet (s : Fin 16) : Finset (S16x2x1024.Idx) := (slotM s).view.set

/-- Slot `s` of device `c`'s buffer of statistics, at share `q` and contents `f`. -/
def slotPts (c : Dev nD) (s : Fin 16) (q : PosShare TreeShare) (f : Buf (Elt F) (cLoc c)) : sProp 𝕄 :=
  (slotM s).view.loc (c : Thread nD τ) ↦[(slotM s).view.set]{q} f
/-- Device `c`'s block of `x` where it was launched, and in the local buffer. -/
def xPts (c : Dev nD) : sProp 𝕄 := xM.view.loc (c : Thread nD τ) ↦[xM.view.set]{fullShare} xAt m c
def vPts (c : Dev nD) (f : Buf (Elt F) ((c : Thread nD τ).loc cc0_scratch0)) : sProp 𝕄 :=
  vM.view.loc (c : Thread nD τ) ↦[vM.view.set]{fullShare} f

/-- The share of slot `0` the send at distance `e` reads: a leaf of the right half. -/
abbrev lent (e : Fin 16) : PosShare TreeShare := ShareLeaves.leaf 4 fullShare.right e

omit [FloatOps F] in
instance slotPts_storable (c : Dev nD) (s q f) : BI.Storable (upEmb : UEmb _ 𝕄) (slotPts (F := F) c s q f) := by unfold slotPts; infer_instance
omit [FloatOps F] in
instance xPts_storable (c : Dev nD) : BI.Storable (upEmb : UEmb _ 𝕄) (xPts (F := F) m c) := by unfold xPts; infer_instance
omit [FloatOps F] in
instance vPts_storable (c : Dev nD) (f) : BI.Storable (upEmb : UEmb _ 𝕄) (vPts (F := F) c f) := by unfold vPts; infer_instance

/-! ## The schedule -/

def dutiesOf : Option CK → Finset (Fin 16)
  | some none => Finset.univ.erase 0
  | some (some none) => {0}
  | some (some (some (_, e))) => if e = 0 then ∅ else {0}
  | none => ∅

def amountOf : Option CK → ℕ
  | some none => 1
  | some (some none) => NX
  | _ => N

def payOf (p : Dev nD) (d : Fin 16) : Option CK → sProp 𝕄
  | some none => iprop(∃ f, slotPts (p - d) d fullShare f)
  | some (some none) => iprop(vPts p (xAt m p) ∗ xPts m p)
  | some (some (some (false, e))) => slotPts p 0 (lent e) (cAt m p)
  | some (some (some (true, s))) => slotPts p s fullShare (cAt m p)
  | none => iprop(emp)

instance payOf_storable (p : Dev nD) (d : Fin 16) : ∀ k, BI.Storable (upEmb : UEmb _ 𝕄) (payOf (F := F) m p d k)
  | some none => by unfold payOf; infer_instance
  | some (some none) => by unfold payOf; infer_instance
  | some (some (some (false, e))) => by unfold payOf; infer_instance
  | some (some (some (true, s))) => by unfold payOf; infer_instance
  | none => by unfold payOf; infer_instance

/-- One round: the duties above, each of the amount above, handing over what is said above. -/
def sched : Rounds.Schedule (GSem nD τ sig) (Fin 16) 𝕄 where
  duties g r := if r = 0 ∧ g.1.2 = .tc then dutiesOf (decode g.2) else ∅
  unitless _ := False
  amount g _ _ := amountOf (decode g.2)
  payload g _ d := payOf m g.1.1 d (decode g.2)
  amount_pos g _ _ _ := by
    show 0 < amountOf (decode g.2)
    unfold amountOf; split
    · exact Nat.one_pos
    · exact NX_pos
    · exact N_pos

instance sched_payload_storable (g : GSem nD τ sig) (r : ℕ) (d : Fin 16) :
    BI.Storable (upEmb : UEmb _ 𝕄) ((sched (F := F) m).payload g r d) := payOf_storable m g.1.1 d (decode g.2)

/-- A cell's duties in round `0`, the amount of each and what each hands over, by the cell's place. -/
theorem duties_at (c : Dev nD) (sm : SemLoc sig) : (sched (F := F) m).duties ((c : Thread nD τ), sm) 0 = dutiesOf (decode sm) :=
  if_pos (e := (∅ : Finset (Fin 16))) (show (0 : ℕ) = 0 ∧ ((c : Thread nD τ)).2 = .tc from ⟨rfl, rfl⟩)
theorem duties_later (g : GSem nD τ sig) : ∀ r, 1 ≤ r → (sched (F := F) m).duties g r = ∅ := fun r hr => if_neg fun h => by omega
theorem amount_at (c : Dev nD) (sm : SemLoc sig) (d : Fin 16) : (sched (F := F) m).amount ((c : Thread nD τ), sm) 0 d = amountOf (decode sm) := rfl
theorem payload_at (c : Dev nD) (sm : SemLoc sig) (d : Fin 16) : (sched (F := F) m).payload ((c : Thread nD τ), sm) 0 d = payOf m c d (decode sm) := rfl

theorem duties_bar (c : Dev nD) : (sched (F := F) m).duties (barCell c) 0 = Finset.univ.erase 0 := by rw [duties_at, decode_bar]; rfl
theorem duties_copy (c : Dev nD) : (sched (F := F) m).duties (copyCell c) 0 = {0} := by rw [duties_at, decode_copy]; rfl
theorem duties_send (c : Dev nD) {e : Fin 16} (he : e ≠ 0) : (sched (F := F) m).duties (sendCell c e) 0 = {0} := by
  rw [duties_at, decode_send]; exact if_neg he
theorem duties_recv (c : Dev nD) {s : Fin 16} (hs : s ≠ 0) : (sched (F := F) m).duties (recvCell c s) 0 = {0} := by
  rw [duties_at, decode_recv]; exact if_neg hs
theorem duties_send0 (c : Dev nD) : ∀ r, 0 ≤ r → (sched (F := F) m).duties (sendCell c 0) r = ∅
  | 0, _ => by rw [duties_at, decode_send]; rfl
  | r + 1, _ => duties_later m _ _ (Nat.succ_pos r)
theorem duties_recv0 (c : Dev nD) : ∀ r, 0 ≤ r → (sched (F := F) m).duties (recvCell c 0) r = ∅
  | 0, _ => by rw [duties_at, decode_recv]; rfl
  | r + 1, _ => duties_later m _ _ (Nat.succ_pos r)

theorem amount_bar (c : Dev nD) (d : Fin 16) : (sched (F := F) m).amount (barCell c) 0 d = 1 := by rw [amount_at, decode_bar]; rfl
theorem amount_copy (c : Dev nD) (d : Fin 16) : (sched (F := F) m).amount (copyCell c) 0 d = NX := by rw [amount_at, decode_copy]; rfl
theorem amount_send (c : Dev nD) (e d : Fin 16) : (sched (F := F) m).amount (sendCell c e) 0 d = N := by rw [amount_at, decode_send]; rfl
theorem amount_recv (c : Dev nD) (s d : Fin 16) : (sched (F := F) m).amount (recvCell c s) 0 d = N := by rw [amount_at, decode_recv]; rfl

theorem payload_bar (c : Dev nD) (d : Fin 16) : (sched (F := F) m).payload (barCell c) 0 d = iprop(∃ f, slotPts (c - d) d fullShare f) := by
  rw [payload_at, decode_bar]; rfl
theorem payload_copy (c : Dev nD) (d : Fin 16) : (sched (F := F) m).payload (copyCell c) 0 d = iprop(vPts c (xAt m c) ∗ xPts m c) := by
  rw [payload_at, decode_copy]; rfl
theorem payload_send (c : Dev nD) (e d : Fin 16) : (sched (F := F) m).payload (sendCell c e) 0 d = slotPts c 0 (lent e) (cAt m c) := by
  rw [payload_at, decode_send]; rfl
theorem payload_recv (c : Dev nD) (s d : Fin 16) : (sched (F := F) m).payload (recvCell c s) 0 d = slotPts c s fullShare (cAt m c) := by
  rw [payload_at, decode_recv]; rfl

/-- What a wait for the whole round expects. -/
theorem expect_bar (c : Dev nD) : (sched (F := F) m).expect (barCell c) 0 = 15 := by
  unfold Schedule.expect Schedule.amountOf
  rw [duties_bar, Finset.sum_congr rfl fun d _ => amount_bar m c d]; decide
theorem expect_one {g : GSem nD τ sig} {k : ℕ} (hd : (sched (F := F) m).duties g 0 = {0}) (ha : (sched (F := F) m).amount g 0 0 = k) :
    (sched (F := F) m).expect g 0 = k := by
  unfold Schedule.expect Schedule.amountOf; rw [hd, Finset.sum_singleton, ha]
theorem expect_copy (c : Dev nD) : (sched (F := F) m).expect (copyCell c) 0 = NX := expect_one m (duties_copy m c) (amount_copy m c 0)
theorem expect_send (c : Dev nD) {e : Fin 16} (he : e ≠ 0) : (sched (F := F) m).expect (sendCell c e) 0 = N :=
  expect_one m (duties_send m c he) (amount_send m c e 0)
theorem expect_recv (c : Dev nD) {s : Fin 16} (hs : s ≠ 0) : (sched (F := F) m).expect (recvCell c s) 0 = N :=
  expect_one m (duties_recv m c hs) (amount_recv m c s 0)

/-- Going round the sixteen devices. -/
theorem dev_sub_neg : ∀ (c : Dev nD) (e : Fin 16), c - -e = c + e := by decide +kernel
theorem dev_add_sub : ∀ (c : Dev nD) (e : Fin 16), c + e - e = c := by decide +kernel
theorem dev_add_neg : ∀ (c : Dev nD) (e : Fin 16), c + e + -e = c := by decide +kernel

/-- What it is handed. -/
theorem rest_bar (c : Dev nD) : bigSep ((sched (F := F) m).duties (barCell c) 0 \ ∅) (fun d => (sched (F := F) m).payload (barCell c) 0 d)
    = bigSepL dist (fun e : Fin 16 => iprop(∃ f, slotPts (c + e) (-e) fullShare f)) := by
  rw [Finset.sdiff_empty, duties_bar, bigSep_congr fun d _ => payload_bar m c d,
    bigSep_eq_bigSepL_of_eq (dist.map fun e => -e) (by decide) (by decide), bigSepL_map]
  congr 1; funext e; rw [dev_sub_neg]
theorem rest_copy (c : Dev nD) : bigSep ((sched (F := F) m).duties (copyCell c) 0 \ ∅) (fun d => (sched (F := F) m).payload (copyCell c) 0 d)
    = iprop(vPts c (xAt m c) ∗ xPts m c) := by
  rw [Finset.sdiff_empty, duties_copy, bigSep_singleton, payload_copy]
theorem rest_send (c : Dev nD) {e : Fin 16} (he : e ≠ 0) :
    bigSep ((sched (F := F) m).duties (sendCell c e) 0 \ ∅) (fun d => (sched (F := F) m).payload (sendCell c e) 0 d) = slotPts c 0 (lent e) (cAt m c) := by
  rw [Finset.sdiff_empty, duties_send m c he, bigSep_singleton, payload_send]
theorem rest_recv (c : Dev nD) {s : Fin 16} (hs : s ≠ 0) :
    bigSep ((sched (F := F) m).duties (recvCell c s) 0 \ ∅) (fun d => (sched (F := F) m).payload (recvCell c s) 0 d) = slotPts c s fullShare (cAt m c) := by
  rw [Finset.sdiff_empty, duties_recv m c hs, bigSep_singleton, payload_recv]

/-! ## What each device owes at launch, and the levels -/

/-- The credits device `c` still owes: of its sends at the distances listed, -/
def recvOwed (c : Dev nD) : List (Fin 16) → CellTallies nD τ sig Unit
  | [] => 0
  | e :: l => recvOwed c l + tallyAt (recvCell (c + e) (-e)) () N
/-- and of its signals. -/
def barOwed (c : Dev nD) : List (Fin 16) → CellTallies nD τ sig Unit
  | [] => 0
  | e :: l => barOwed c l + tallyAt (barCell (c + e)) () 1
def O₀ (c : Dev nD) : CellTallies nD τ sig Unit := recvOwed c dist + barOwed c dist

def L (g : GSem nD τ sig) : Finset Unit := if g.1.2 = .tc then {()} else ∅
def levOf : Option CK → ℕ
  | some none => 1
  | some (some (some (true, _))) => 2
  | _ => 0
/-- Barriers at 1, arrivals at 2, everything else at 0. -/
def lv (g : GSem nD τ sig) (_ : Unit) : ℕ := levOf (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (sm : SemLoc sig) (u : Unit) : lv ((c : Thread nD τ), sm) u = levOf (decode sm) := rfl

theorem recvOwed_pos {c : Dev nD} {g : GSem nD τ sig} {u : Unit} : ∀ {l : List (Fin 16)}, 0 < recvOwed c l g u → ∃ e, g = recvCell (c + e) (-e)
  | [], h => absurd h (Nat.lt_irrefl 0)
  | e :: l, h => by
    rw [recvOwed, Pi.add_apply, Finsupp.add_apply, tallyAt_apply] at h
    by_cases hg : g = recvCell (c + e) (-e) ∧ u = ()
    · exact ⟨e, hg.1⟩
    · rw [if_neg hg] at h; exact recvOwed_pos h
theorem barOwed_pos {c : Dev nD} {g : GSem nD τ sig} {u : Unit} : ∀ {l : List (Fin 16)}, 0 < barOwed c l g u → ∃ e, g = barCell (c + e)
  | [], h => absurd h (Nat.lt_irrefl 0)
  | e :: l, h => by
    rw [barOwed, Pi.add_apply, Finsupp.add_apply, tallyAt_apply] at h
    by_cases hg : g = barCell (c + e) ∧ u = ()
    · exact ⟨e, hg.1⟩
    · rw [if_neg hg] at h; exact barOwed_pos h
theorem O₀_pos {c : Dev nD} {g : GSem nD τ sig} {u : Unit} (h : 0 < O₀ c g u) : (∃ e, g = recvCell (c + e) (-e)) ∨ ∃ e, g = barCell (c + e) := by
  unfold O₀ at h
  rw [Pi.add_apply, Finsupp.add_apply] at h
  rcases Nat.eq_zero_or_pos (recvOwed c dist g u) with h0 | h0
  · rw [h0, Nat.zero_add] at h; exact .inr (barOwed_pos h)
  · exact .inl (recvOwed_pos h0)

/-- A wait at level `0` may be made whatever is owed of the launch's debts; -/
theorem mayWait_low (c : Dev nD) (sm : SemLoc sig) (hs : levOf (decode sm) = 0) (O : CellTallies nD τ sig Unit)
    (hO : ∀ g u, 0 < O g u → (∃ e, g = recvCell (c + e) (-e)) ∨ ∃ e, g = barCell (c + e)) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by rcases hO g u hg with ⟨e, rfl⟩ | ⟨e, rfl⟩ <;> exact Finset.mem_singleton_self _)
    (fun p hp => by rw [Finset.mem_singleton.mp hp, lv_at, hs])
    (fun g u hg => by
      rcases hO g u hg with ⟨e, rfl⟩ | ⟨e, rfl⟩
      · rw [lv_at, decode_recv]; exact Nat.two_pos
      · rw [lv_at, decode_bar]; decide)

/-- the barrier's wait, owing sends alone. -/
theorem mayWait_bar (c : Dev nD) (l : List (Fin 16)) : (levAts L lv : sProp 𝕄) ⊢ MayWait (c : Thread nD τ) (.reg barSem) () (recvOwed c l) :=
  MayOwe.of_cut (L := L) (lev := lv) 1 (fun p hp => by rw [Finset.mem_singleton.mp hp, L_tc]; exact Finset.mem_singleton_self _)
    (fun g u hg => by obtain ⟨e, rfl⟩ := recvOwed_pos hg; exact Finset.mem_singleton_self _)
    (fun p hp => by rw [Finset.mem_singleton.mp hp, lv_at, decode_bar]; decide)
    (fun g u hg => by obtain ⟨e, rfl⟩ := recvOwed_pos hg; rw [lv_at, decode_recv]; exact Nat.one_lt_two)

end Cert.LayerNorm

end
-- ==== Proof.Slots.lean ====
/-
# The slots

The sixteen slots partition the buffer of statistics; what the two stores of the local statistics leave in slot `0`; what
a send leaves in the slot it lands in; and taking the buffer apart into slots and shares and putting it together again.
-/
module

public import proofs.«01_k».proof.Proof.Sched
public import Idealize.ShloMosaic.Lib.Writes

@[expose] public section

noncomputable section

namespace Cert.LayerNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Elements -/

abbrev slotR (s : Fin 16) : Rect S16x2x1024 := Rect.unit (s := S16x2x1024) ![s.val, 0, 0] S1x2x1024.size (inb_slot s)

theorem slot_set (s : Fin 16) : (slotM s).view.set = (slotR s).set := by
  rw [Memref.set_view_squeeze]; exact View.set_slice_whole _ _

/-- An element is in slot `s` iff its first coordinate is `s`. -/
theorem mem_slot (s : Fin 16) (i : S16x2x1024.Idx) : i ∈ (slotM s).view.set ↔ (i 0).val = s.val := by
  rw [slot_set, Rect.mem_set_unit]
  have h1 : (i 1).val < 2 := (i 1).isLt
  have h2 : (i 2).val < 1024 := (i 2).isLt
  constructor
  · intro h
    have := h 0
    have a : s.val ≤ (i 0).val ∧ (i 0).val < s.val + 1 := this
    omega
  · intro h a
    fin_cases a
    · show s.val ≤ (i 0).val ∧ (i 0).val < s.val + 1
      omega
    · show 0 ≤ (i 1).val ∧ (i 1).val < 0 + 2
      omega
    · show 0 ≤ (i 2).val ∧ (i 2).val < 0 + 1024
      omega

theorem slots_union : (Finset.univ : Finset (Fin 16)).biUnion slotSet = Finset.univ := by
  ext i
  simp only [Finset.mem_biUnion, Finset.mem_univ, true_and, iff_true]
  exact ⟨⟨(i 0).val, (i 0).isLt⟩, (mem_slot _ i).mpr rfl⟩

theorem slots_disj : ∀ s ∈ (Finset.univ : Finset (Fin 16)), ∀ t ∈ (Finset.univ : Finset (Fin 16)), s ≠ t → Disjoint (slotM s).view.set (slotM t).view.set := by
  intro s _ t _ h
  rw [Finset.disjoint_left]
  intro i hs ht
  exact h (Fin.ext (((mem_slot s i).mp hs).symm.trans ((mem_slot t i).mp ht)))

/-- A slot's element with the slot number apart. -/
theorem slot_emb (s : Fin 16) (x : S2x1024.Idx) : ∃ j : ℕ, ∃ r : ℕ, ∀ t : Fin 16,
    (((slotM t).view.emb x) 0).val = t.val ∧ (((slotM t).view.emb x) 1).val = j ∧ (((slotM t).view.emb x) 2).val = r := by
  let y : S1x2x1024.Idx := Shape.reshapeEquiv (s := S1x2x1024) (s' := S2x1024) rfl x
  have hy : (y 0).val = 0 := Nat.lt_one_iff.mp (y 0).isLt
  have key : ∀ t : Fin 16, ∀ a, (((slotM t).view.emb x) a).val = (![t.val, 0, 0] : Fin 3 → ℕ) a + 1 * (y a).val := fun t a => rfl
  refine ⟨0 + 1 * (y 1).val, 0 + 1 * (y 2).val, fun t => ⟨?_, key t 1, key t 2⟩⟩
  rw [key t 0, hy]; rfl

theorem dev_slot : ∀ (c : Dev nD) (e : Fin 16), c + Fin.ofNat 16 (0 : Fin 16).val = c + e + Fin.ofNat 16 (-e).val := by decide +kernel
theorem dev_zero : ∀ c : Dev nD, c + Fin.ofNat 16 0 = c := by decide +kernel

/-- What the send at distance `e` of device `c` leaves in slot `-e` of device `c + e`: what that device's buffer is to hold there. -/
theorem sent_eq (c : Dev nD) (e : Fin 16) (fd : Buf (Elt F) (cLoc (c + e))) :
    ∀ i ∈ (slotM (-e)).view.set,
      (slotM (-e)).view.write (Elt F) fd ((slotM 0).view.read (Elt F) (cAt m c)) Finset.univ i = cAt m (c + e) i := by
  intro i hi
  obtain ⟨x, -, rfl⟩ := Finset.mem_map.mp hi
  rw [View.write_emb_of_mem _ _ (Finset.mem_univ x), View.read_apply, cast_cast, cast_eq]
  obtain ⟨j, r, h⟩ := slot_emb 0 x
  unfold cAt
  rw [(h 0).1, (h 0).2.1, (h 0).2.2, (h (-e)).1, (h (-e)).2.1, (h (-e)).2.2]
  congr 1
  exact dev_slot c e

/-! ## The two stores of the local statistics -/

abbrev sumV : View sig .tc .vmem S1x1x1024 .f32 := (cM : Memref sig .tc .vmem S16x2x1024 .f32).access sumR
abbrev sqV : View sig .tc .vmem S1x1x1024 .f32 := (cM : Memref sig .tc .vmem S16x2x1024 .f32).access sqR

theorem mem_sum (i : S16x2x1024.Idx) : i ∈ sumR.set ↔ (i 0).val = 0 ∧ (i 1).val = 0 := by
  rw [Rect.mem_set_unit]
  have h2 : (i 2).val < 1024 := (i 2).isLt
  constructor
  · intro h
    have a : 0 ≤ (i 0).val ∧ (i 0).val < 0 + 1 := h 0
    have b : 0 ≤ (i 1).val ∧ (i 1).val < 0 + 1 := h 1
    omega
  · intro h a
    fin_cases a
    · show 0 ≤ (i 0).val ∧ (i 0).val < 0 + 1
      omega
    · show 0 ≤ (i 1).val ∧ (i 1).val < 0 + 1
      omega
    · show 0 ≤ (i 2).val ∧ (i 2).val < 0 + 1024
      omega
theorem mem_sq (i : S16x2x1024.Idx) : i ∈ sqR.set ↔ (i 0).val = 0 ∧ (i 1).val = 1 := by
  rw [Rect.mem_set_unit]
  have h2 : (i 2).val < 1024 := (i 2).isLt
  constructor
  · intro h
    have a : 0 ≤ (i 0).val ∧ (i 0).val < 0 + 1 := h 0
    have b : 1 ≤ (i 1).val ∧ (i 1).val < 1 + 1 := h 1
    omega
  · intro h a
    fin_cases a
    · show 0 ≤ (i 0).val ∧ (i 0).val < 0 + 1
      omega
    · show 1 ≤ (i 1).val ∧ (i 1).val < 1 + 1
      omega
    · show 0 ≤ (i 2).val ∧ (i 2).val < 0 + 1024
      omega

theorem sum_sub : sumR.set ⊆ (slotM 0).view.set := fun i hi => (mem_slot 0 i).mpr ((mem_sum i).mp hi).1
theorem sq_sub : sqR.set ⊆ (slotM 0).view.set := fun i hi => (mem_slot 0 i).mpr ((mem_sq i).mp hi).1
theorem sumV_set : sumV.set = sumR.set := View.set_slice_whole _ _
theorem sqV_set : sqV.set = sqR.set := View.set_slice_whole _ _

/-- Slot `0` of device `c` after the stores of its sums and its sums of squares. -/
theorem stored_eq (c : Dev nD) (f : Buf (Elt F) (cLoc c)) :
    ∀ i ∈ (slotM 0).view.set,
      sqV.write (Elt F) (sumV.write (Elt F) f (k0_pay1 (xAt m c)) Finset.univ) (k0_pay2 (xAt m c)) Finset.univ i = cAt m c i := by
  intro i hi
  have h0 : (i 0).val = 0 := (mem_slot 0 i).mp hi
  have h1 : (i 1).val < 2 := (i 1).isLt
  have h2 : (i 2).val < 1024 := (i 2).isLt
  have hr : (Fin.ofNat 1024 (i 2).val : Fin 1024).val = (i 2).val := Nat.mod_eq_of_lt h2
  have hc : c + Fin.ofNat 16 (i 0).val = c := by rw [h0]; exact dev_zero c
  unfold cAt
  rw [hc]
  unfold stat
  by_cases hj : (i 1).val = 0
  · rw [if_pos hj, View.write_of_not_mem]
    · have hx : i = sumV.emb (at3 0 0 (Fin.ofNat 1024 (i 2).val)) := by
        funext a
        fin_cases a <;> apply Fin.ext
        · show (i 0).val = 0 + 1 * 0
          omega
        · show (i 1).val = 0 + 1 * 0
          omega
        · show (i 2).val = 0 + 1 * (Fin.ofNat 1024 (i 2).val : Fin 1024).val
          omega
      conv_lhs => rw [hx]
      rw [View.write_emb_of_mem _ _ (Finset.mem_univ _)]; rfl
    · rw [View.setOn_univ, sqV_set, mem_sq]; omega
  · rw [if_neg hj]
    have hx : i = sqV.emb (at3 0 0 (Fin.ofNat 1024 (i 2).val)) := by
      funext a
      fin_cases a <;> apply Fin.ext
      · show (i 0).val = 0 + 1 * 0
        omega
      · show (i 1).val = 1 + 1 * 0
        omega
      · show (i 2).val = 0 + 1 * (Fin.ofNat 1024 (i 2).val : Fin 1024).val
        omega
    conv_lhs => rw [hx]
    rw [View.write_emb_of_mem _ _ (Finset.mem_univ _)]; rfl

/-! ## Whole-buffer accesses -/

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

omit [FloatOps F] in
theorem read_c (f : (cc0_scratch1 : Ref sig .tc).ty.Contents (Elt F)) : (cM : Memref sig .tc .vmem S16x2x1024 .f32).view.readAt (Elt F) allR.toLoadRect f = f :=
  Memref.readAt_unit_zero (Elt F) cc0_scratch1 hz3 _ f
omit [FloatOps F] in
theorem read_v (f : (cc0_scratch0 : Ref sig .tc).ty.Contents (Elt F)) : (vM : Memref sig .tc .vmem S1024x512 .f32).view.readAt (Elt F) bigR.toLoadRect f = f :=
  Memref.readAt_unit_zero (Elt F) cc0_scratch0 hz2 _ f
omit [FloatOps F] in
theorem read_o (f : (cc0_stg2_0 : Ref sig .tc).ty.Contents (Elt F)) : (oM : Memref sig .tc .vmem S1024x512 .f32).view.readAt (Elt F) bigR.toLoadRect f = f :=
  Memref.readAt_unit_zero (Elt F) cc0_stg2_0 hz2 _ f
omit [FloatOps F] in
theorem read_g (f : (cc0_stg0_0 : Ref sig .tc).ty.Contents (Elt F)) : (gM : Memref sig .tc .vmem S512 .f32).view.readAt (Elt F) vecR.toLoadRect f = f :=
  Memref.readAt_unit_zero (Elt F) cc0_stg0_0 hz1 _ f
omit [FloatOps F] in
theorem read_b (f : (cc0_stg1_0 : Ref sig .tc).ty.Contents (Elt F)) : (bM : Memref sig .tc .vmem S512 .f32).view.readAt (Elt F) vecR.toLoadRect f = f :=
  Memref.readAt_unit_zero (Elt F) cc0_stg1_0 hz1 _ f
omit [FloatOps F] in
theorem write_o (f w : (cc0_stg2_0 : Ref sig .tc).ty.Contents (Elt F)) :
    ((oM : Memref sig .tc .vmem S1024x512 .f32).access bigR : View sig .tc _ _ _).write (Elt F) f w Finset.univ = w :=
  Memref.write_access_unit_zero_univ (Elt F) cc0_stg2_0 hz2 _ f w

/-! ## Taking the buffer apart -/

/-- The whole buffer at a share is its sixteen slots at it. -/
theorem whole_slots (c : Dev nD) (q : PosShare TreeShare) (f : Buf (Elt F) (cLoc c)) :
    (cLoc c ↦{q} f : sProp 𝕄) = bigSep Finset.univ fun s : Fin 16 => slotPts c s q f := by
  rw [show (cLoc c ↦{q} f : sProp 𝕄) = (cLoc c ↦[(Finset.univ : Finset (Fin 16)).biUnion slotSet]{q} f) from by rw [slots_union]]
  exact pointsTo_biUnion _ _ slots_disj

/-- The slots, slot `0` first and the others by the distance that fills them. -/
theorem slots_list (Φ : Fin 16 → sProp 𝕄) : bigSep Finset.univ Φ = iprop(Φ 0 ∗ bigSepL dist fun e => Φ (-e)) := by
  rw [bigSep_eq_bigSepL_of_eq (0 :: dist.map fun e => -e) (by decide) (by decide), bigSepL_cons', bigSepL_map]

/-- Slot `s` at the two halves of the full share. -/
theorem slot_halves (c : Dev nD) (s : Fin 16) (f : Buf (Elt F) (cLoc c)) :
    (slotPts c s fullShare f : sProp 𝕄) ⊣⊢ iprop(slotPts c s fullShare.left f ∗ slotPts c s fullShare.right f) := by
  unfold slotPts
  exact pointsTo_share (PosShare.mem_left_op_right fullShare)

/-- The right half in sixteen leaves: leaf `0`, and one to lend to the send at each distance. -/
theorem slot_lend (c : Dev nD) (s : Fin 16) (f : Buf (Elt F) (cLoc c)) :
    (slotPts c s fullShare.right f : sProp 𝕄) = iprop(slotPts c s (lent 0) f ∗ bigSepL dist fun e => slotPts c s (lent e) f) := by
  unfold slotPts
  rw [ShareLeaves.pointsTo_leaves _ f 4 fullShare.right]
  exact (bigSep_eq_bigSepL_of_eq (0 :: dist : List (Fin 16)) (by decide) (by decide) _).trans (bigSepL_cons' _ _ _)

end Cert.LayerNorm

end
-- ==== Proof.Loops.lean ====
/-
# The four loops

Each loop of the body, over any list of distances: what it takes and what it leaves, by induction on the list.
-/
module

public import proofs.«01_k».proof.Proof.Slots
public import Idealize.ShloMosaic.Lib.Tactic

@[expose] public section

noncomputable section

namespace Cert.LayerNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Every cell's invariant, at the name it was allocated at, and that every cell has reached round `0`. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

variable (K : Dev nD × CK → ℕ)

theorem inv_at (ck : Dev nD × CK) :
    (bigSep Finset.univ fun ck : Dev nD × CK => (cellInv ER (sched m) (K ck) (kcell ck) : sProp 𝕄)) ⊢ cellInv ER (sched m) (K ck) (kcell ck) :=
  bigSep_elim (Finset.mem_univ ck)
omit [FloatOps F] in
theorem mark_at (ck : Dev nD × CK) :
    (bigSep Finset.univ fun ck : Dev nD × CK => (reached ER (kcell ck) 0 : sProp 𝕄)) ⊢ reached ER (kcell ck) 0 :=
  bigSep_elim (Finset.mem_univ ck)
theorem inv_of (ck : Dev nD × CK) : records m K ⊢ cellInv ER (sched m) (K ck) (kcell ck) := by
  unfold records
  iintro ⟨H, -⟩
  iapply (inv_at m K ck); iexact H
theorem mark_of (ck : Dev nD × CK) : records m K ⊢ reached ER (kcell ck) 0 := by
  unfold records
  iintro ⟨-, H⟩
  iapply (mark_at (F := F) ck); iexact H

theorem slot_credit (s : Fin 16) : (slotM s).view.dmaCredit = N := rfl
theorem neg_ne : ∀ e : Fin 16, e ≠ 0 → -e ≠ 0 := by decide

variable (c : Dev nD)

abbrev wpc (p : Body F) (Q : PUnit → sProp 𝕄) : sProp 𝕄 := wp frame (wpE (defs₀ (F := F)) 𝒱₀ (c : Thread nD τ) none) Set.univ p Q

/-- The signals: slot `e` goes with the signal at distance `e`. -/
theorem wp_sigs (Q : PUnit → sProp 𝕄) (k : Body F) (R : CellTallies nD τ sig Unit) (W : Waits sig Unit) : ∀ l : List (Fin 16), (∀ e ∈ l, e ≠ 0) →
    iprop(records m K ∗ owes (c : Thread nD τ) (R + barOwed c l) W
        ∗ bigSepL l fun e => iprop(dutyTok ER (barCell (c + e)) 0 e ∗ ∃ f, slotPts c e fullShare f))
      ⊢ iprop((owes (c : Thread nD τ) R W -∗ wpc c k Q) -∗ wpc c (sigs c l k) Q)
  | [], _ => by
    unfold sigs barOwed
    rw [add_zero]
    iintro ⟨-, HO, -⟩ Hk
    iapply Hk; iexact HO
  | e :: l, h => by
    unfold sigs barOwed wpc
    rw [bigSepL_cons', sigDev_eq]
    iintro ⟨#HR, HO, ⟨Ht, Hs⟩, Hl⟩ Hk
    iapply (Rounds.wp_signal 𝒱₀ ER (sched m) (c : Thread nD τ) none (dst := (c + e : Dev nD)) (κ := K (c + e, none)) (r := 0)
        (d := e) (by rw [duties_bar]; exact Finset.mem_erase.mpr ⟨h e List.mem_cons_self, Finset.mem_univ _⟩) (amount_bar m (c + e) e) ()
        (R + barOwed c l) (add_assoc _ _ _).symm) $$ [HO Ht Hs]
    · isplitr; · iapply (inv_of m K (c + e, none)); iexact HR
      isplitl [HO]; · iexact HO
      isplitl [Ht]; · iexact Ht
      isplitl [Hs]
      · rw [payload_bar, dev_add_sub]; iexact Hs
      iapply (mark_of m K (c + e, none)); iexact HR
    iintro HO
    iapply (wp_sigs Q k R W l fun e he => h e (List.mem_cons_of_mem _ he)) $$ [HO Hl]
    · isplitr; · iexact HR
      isplitl [HO] <;> iassumption
    iexact Hk

/-- One send, addressed to `n = c + e`. -/
theorem wp_send_one (Q : PUnit → sProp 𝕄) (e : Fin 16) (he : e ≠ 0) (n : Dev nD) (hn : n = c + e) (O : CellTallies nD τ sig Unit) (W : Waits sig Unit)
    {hsc : (slotM (-e) : Memref sig (Dev.tc n : Thread nD τ).2.kind .vmem S2x1024 .f32).view.ref.isScScratch = false}
    {hsrc : (slotM 0).view.WordExact} {hdst : (slotM (-e)).view.WordExact}
    {hsem : DmaTarget.Typed .vmem (.dma (recvSem (-e))) (.remote (Dev.tc n : Thread nD τ) (slotM (-e)) (.dma (sendSem e)) hsc)}
    {k : PUnit → Body F} (fd : Buf (Elt F) (cLoc (c + e))) :
    iprop(records m K ∗ slotPts c 0 (lent e) (cAt m c) ∗ slotPts (c + e) (-e) fullShare fd
        ∗ owes (c : Thread nD τ) (O + tallyAt (recvCell (c + e) (-e)) () N) W
        ∗ dutyTok ER (sendCell c e) 0 0 ∗ dutyTok ER (recvCell (c + e) (-e)) 0 0)
      ⊢ iprop(((cred (tallyAt (sendCell c e) () N) ∗ owes (c : Thread nD τ) O W) -∗ wpc c (k ⟨⟩) Q)
          -∗ wpc c (.op (.enqueueDma (slotM 0) (.remote (Dev.tc n : Thread nD τ) (slotM (-e)) (.dma (sendSem e)) hsc) (.dma (recvSem (-e))) hsrc hdst hsem) k) Q) := by
  subst hn
  refine (?_ : _ ⊢ _).trans (Rounds.wp_send_pointsTo 𝒱₀ ER (sched m) (c : Thread nD τ) none (κ₁ := K (c, some (some (false, e)))) (κ₂ := K (c + e, some (some (true, -e))))
    (r₁ := 0) (r₂ := 0) (d₁ := 0) (d₂ := 0) (fd := fd) (fs := cAt m c) (q := lent e)
    (by rw [duties_send m c he]; exact Finset.mem_singleton_self _) (by rw [duties_recv m (c + e) (neg_ne e he)]; exact Finset.mem_singleton_self _)
    () () N (by exact slot_credit (-e)) (amount_send m c e 0) (amount_recv m (c + e) (-e) 0) O rfl (W := W)
    (by rw [payload_send]; unfold slotPts; exact BI.Entails.refl _)
    (by rw [payload_recv]; unfold slotPts; exact Entails.of_eq (pointsTo_congr (sent_eq m c e fd))))
  unfold slotPts
  iintro ⟨#HR, Hs, Hd, HO, Ht, Ht'⟩
  isplitr; · iapply (inv_of m K (c, some (some (false, e)))); iexact HR
  isplitr; · iapply (inv_of m K (c + e, some (some (true, -e)))); iexact HR
  isplitl [Hs]; · iexact Hs
  isplitl [Hd]; · iexact Hd
  isplitl [HO]; · iexact HO
  isplitl [Ht]; · iexact Ht
  isplitr; · iapply (mark_of m K (c, some (some (false, e)))); iexact HR
  isplitl [Ht']; · iexact Ht'
  iapply (mark_of m K (c + e, some (some (true, -e)))); iexact HR

/-- The sends: each reads slot `0` at the share lent to it and fills the slot its receiver handed over at the barrier. -/
theorem wp_sends (Q : PUnit → sProp 𝕄) (k : Body F) (W : Waits sig Unit) : ∀ l : List (Fin 16), (∀ e ∈ l, e ≠ 0) →
    iprop(records m K ∗ owes (c : Thread nD τ) (recvOwed c l) W
        ∗ bigSepL l (fun e => slotPts c 0 (lent e) (cAt m c))
        ∗ bigSepL l (fun e => iprop(∃ f, slotPts (c + e) (-e) fullShare f))
        ∗ bigSepL l (fun e => dutyTok ER (sendCell c e) 0 0)
        ∗ bigSepL l (fun e => dutyTok ER (recvCell (c + e) (-e)) 0 0))
      ⊢ iprop(((bigSepL l (fun e => cred (tallyAt (sendCell c e) () N)) ∗ owes (c : Thread nD τ) 0 W) -∗ wpc c k Q) -∗ wpc c (sends c l k) Q)
  | [], _ => by
    unfold sends recvOwed
    iintro ⟨-, HO, -⟩ Hk
    iapply Hk
    isplitr; · rw [bigSepL_nil]; iempintro
    iexact HO
  | e :: l, h => by
    unfold sends recvOwed
    simp only [bigSepL_cons']
    iintro ⟨#HR, HO, ⟨Hs, Hsl⟩, ⟨⟨%fd, Hd⟩, Hdl⟩, ⟨Ht, Htl⟩, Ht', Htl'⟩ Hk
    iapply (wp_send_one m K c Q e (h e List.mem_cons_self) _ (sendDev_eq c e) (recvOwed c l) W fd) $$ [HO Hs Hd Ht Ht']
    · isplitr; · iexact HR
      isplitl [Hs]; · iexact Hs
      isplitl [Hd]; · iexact Hd
      isplitl [HO]; · iexact HO
      isplitl [Ht] <;> iassumption
    iintro ⟨Hc, HO⟩
    iapply (wp_sends Q k W l fun e he => h e (List.mem_cons_of_mem _ he)) $$ [HO Hsl Hdl Htl Htl']
    · isplitr; · iexact HR
      isplitl [HO]; · iexact HO
      isplitl [Hsl]; · iexact Hsl
      isplitl [Hdl]; · iexact Hdl
      isplitl [Htl] <;> iassumption
    iintro ⟨Hcl, HO⟩
    iapply Hk
    isplitl [Hc Hcl]
    · isplitl [Hc] <;> iassumption
    iexact HO

/-- The waits for the arrivals: each hands over its slot, filled, and closes its cell. -/
theorem wp_recvWaits (Q : PUnit → sProp 𝕄) (k : Body F) : ∀ l : List (Fin 16), (∀ e ∈ l, e ≠ 0) → ∀ W : Waits sig Unit,
    iprop(records m K ∗ owes (c : Thread nD τ) 0 W
        ∗ bigSepL l (fun e => cred (tallyAt (recvCell c (-e)) () N))
        ∗ bigSepL l (fun e => atPos ER (recvCell c (-e)) 0 ∅ 0))
      ⊢ iprop((((∃ W', owes (c : Thread nD τ) 0 W') ∗ bigSepL l (fun e => slotPts c (-e) fullShare (cAt m c))
            ∗ bigSepL l (fun e => semVal (recvCell c (-e)) 0)) -∗ wpc c k Q) -∗ wpc c (recvWaits l k) Q)
  | [], _, W => by
    unfold recvWaits
    simp only [bigSepL_nil]
    iintro ⟨-, HO, -⟩ Hk
    iapply Hk
    isplitl [HO]; · iexists W; iexact HO
    isplitr <;> iempintro
  | e :: l, h, W => by
    unfold recvWaits wpc
    simp only [bigSepL_cons']
    iintro ⟨#HR, HO, ⟨Hc, Hcl⟩, Ha, Hal⟩ Hk
    ihave #HI := (inv_of m K (c, some (some (true, -e)))) $$ HR
    iapply (Rounds.wp_wait_rest_token 𝒱₀ ER (sched m) (c : Thread nD τ) none (κ := K (c, some (some (true, -e))))
        (wpE_waitDma2_eq 𝒱₀ (c : Thread nD τ) none Set.univ) (Set.mem_univ _) () (O := 0) (W := W) (R := 0) (m := 0) (T := ∅)
        (by rw [Nat.zero_add, expect_recv m c (neg_ne e (h e List.mem_cons_self))]; exact slot_credit (-e))) $$ [Hc HO Ha]
    · isplitr; · iexact HI
      isplitl [Hc]; · iexact Hc
      isplitl [HO]; · iexact HO
      isplitr; · rw [MayWait_zero]; iempintro
      iexact Ha
    iintro ⟨HO, Ha, -, Hpay⟩
    ihave Hs := (Entails.of_eq (rest_recv m c (neg_ne e (h e List.mem_cons_self)))) $$ Hpay
    imod (Rounds.cell_close ER (sched m) (Set.mem_univ (K (c, some (some (true, -e))))) (fun h => h) (R := 0 + 1) (duties_later m (recvCell c (-e)))) $$ [Ha] with Hz
    · isplitr; · iexact HI
      iexact Ha
    iapply (wp_recvWaits Q k l (fun e he => h e (List.mem_cons_of_mem _ he)) _) $$ [HO Hcl Hal]
    · isplitr; · iexact HR
      isplitl [HO]; · iexact HO
      isplitl [Hcl] <;> iassumption
    iintro ⟨HO, Hsl, Hzl⟩
    iapply Hk
    isplitl [HO]; · iexact HO
    isplitl [Hs Hsl]
    · isplitl [Hs] <;> iassumption
    isplitl [Hz] <;> iassumption

/-- The waits for the sends to have left: each hands back the share it read and closes its cell. -/
theorem wp_sendWaits (Q : PUnit → sProp 𝕄) (k : Body F) : ∀ l : List (Fin 16), (∀ e ∈ l, e ≠ 0) → ∀ W : Waits sig Unit,
    iprop(records m K ∗ owes (c : Thread nD τ) 0 W
        ∗ bigSepL l (fun e => cred (tallyAt (sendCell c e) () N))
        ∗ bigSepL l (fun e => atPos ER (sendCell c e) 0 ∅ 0))
      ⊢ iprop((((∃ W', owes (c : Thread nD τ) 0 W') ∗ bigSepL l (fun e => slotPts c 0 (lent e) (cAt m c))
            ∗ bigSepL l (fun e => semVal (sendCell c e) 0)) -∗ wpc c k Q) -∗ wpc c (sendWaits l k) Q)
  | [], _, W => by
    unfold sendWaits
    simp only [bigSepL_nil]
    iintro ⟨-, HO, -⟩ Hk
    iapply Hk
    isplitl [HO]; · iexists W; iexact HO
    isplitr <;> iempintro
  | e :: l, h, W => by
    unfold sendWaits wpc
    simp only [bigSepL_cons']
    iintro ⟨#HR, HO, ⟨Hc, Hcl⟩, Ha, Hal⟩ Hk
    ihave #HI := (inv_of m K (c, some (some (false, e)))) $$ HR
    iapply (Rounds.wp_wait_rest_token 𝒱₀ ER (sched m) (c : Thread nD τ) none (κ := K (c, some (some (false, e))))
        (wpE_waitDma2_eq 𝒱₀ (c : Thread nD τ) none Set.univ) (Set.mem_univ _) () (O := 0) (W := W) (R := 0) (m := 0) (T := ∅)
        (by rw [Nat.zero_add, expect_send m c (h e List.mem_cons_self)]; exact slot_credit 0)) $$ [Hc HO Ha]
    · isplitr; · iexact HI
      isplitl [Hc]; · iexact Hc
      isplitl [HO]; · iexact HO
      isplitr; · rw [MayWait_zero]; iempintro
      iexact Ha
    iintro ⟨HO, Ha, -, Hpay⟩
    ihave Hs := (Entails.of_eq (rest_send m c (h e List.mem_cons_self))) $$ Hpay
    imod (Rounds.cell_close ER (sched m) (Set.mem_univ (K (c, some (some (false, e))))) (fun h => h) (R := 0 + 1) (duties_later m (sendCell c e))) $$ [Ha] with Hz
    · isplitr; · iexact HI
      iexact Ha
    iapply (wp_sendWaits Q k l (fun e he => h e (List.mem_cons_of_mem _ he)) _) $$ [HO Hcl Hal]
    · isplitr; · iexact HR
      isplitl [HO]; · iexact HO
      isplitl [Hcl] <;> iassumption
    iintro ⟨HO, Hsl, Hzl⟩
    iapply Hk
    isplitl [HO]; · iexact HO
    isplitl [Hs Hsl]
    · isplitl [Hs] <;> iassumption
    isplitl [Hz] <;> iassumption

end Cert.LayerNorm

end
-- ==== Proof.Body.lean ====
/-
# The body

The pipeline's data for the one kernel, and its body run from what the launch gives a device to what it leaves: the
result block, `x` where it was, the buffers, and every semaphore of the protocol at zero.
-/
module

public import proofs.«01_k».proof.Proof.Loops

@[expose] public section

noncomputable section

namespace Cert.LayerNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Lists of distances -/

theorem dist_ne : ∀ e ∈ dist, e ≠ 0 := by decide

omit [FloatOps F] in
theorem dist_eq (Φ : Fin 16 → sProp 𝕄) : bigSep (Finset.univ.erase 0) Φ = bigSepL dist Φ := bigSep_eq_bigSepL_of_eq dist (by decide) (by decide) Φ
omit [FloatOps F] in
theorem dist_sep (Φ Ψ : Fin 16 → sProp 𝕄) : bigSepL dist (fun e => iprop(Φ e ∗ Ψ e)) = iprop(bigSepL dist Φ ∗ bigSepL dist Ψ) := by
  rw [← dist_eq, ← dist_eq, ← dist_eq, bigSep_sep']

omit [FloatOps F] in
/-- Something of every slot, slot `0` first. -/
theorem slots_list' (Φ : Fin 16 → sProp 𝕄) : bigSep Finset.univ Φ = iprop(Φ 0 ∗ bigSepL dist Φ) := by
  rw [bigSep_eq_bigSepL_of_eq (0 :: dist) (by decide) (by decide), bigSepL_cons']

omit [FloatOps F] in
/-- Something of every cell of a device: the barrier's, the copy's, the two that are never used, the sends' and the arrivals'. -/
theorem cells_list (Φ : CK → sProp 𝕄) : bigSep Finset.univ Φ
    = iprop(Φ none ∗ Φ (some none) ∗ Φ (some (some (false, 0))) ∗ Φ (some (some (true, 0)))
        ∗ bigSepL dist (fun e => Φ (some (some (false, e)))) ∗ bigSepL dist fun e => Φ (some (some (true, -e)))) := by
  rw [bigSep_eq_bigSepL_of_eq (none :: some none :: some (some (false, 0)) :: some (some (true, 0))
      :: (dist.map (fun e => some (some (false, e))) ++ dist.map fun e => some (some (true, -e)))) (by decide) (by decide),
    bigSepL_cons', bigSepL_cons', bigSepL_cons', bigSepL_cons', bigSepL_append, bigSepL_map, bigSepL_map]

/-- Slots in halves, all of the left halves apart from all of the right ones. -/
theorem slots_halves (c : Dev nD) (f : Buf (Elt F) (cLoc c)) :
    (bigSepL dist (fun e => slotPts c (-e) fullShare f) : sProp 𝕄)
      ⊢ iprop(bigSepL dist (fun e => slotPts c (-e) fullShare.left f) ∗ bigSepL dist fun e => slotPts c (-e) fullShare.right f) := by
  rw [← dist_sep]
  exact bigSepL_mono fun e _ => (slot_halves c (-e) f).1

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The tokens of the duties device `c` pays: its signals', its sends' two ends', its copy's. -/
def payToks (c : Dev nD) : sProp 𝕄 :=
  iprop(bigSepL dist (fun e => dutyTok ER (barCell (c + e)) 0 e) ∗ bigSepL dist (fun e => dutyTok ER (recvCell (c + e) (-e)) 0 0)
    ∗ bigSepL dist (fun e => dutyTok ER (sendCell c e) 0 0) ∗ dutyTok ER (copyCell c) 0 0)

/-- What stays with device `c`: its positions at round `0` of its cells, and those tokens. -/
def linear (c : Dev nD) : sProp 𝕄 := iprop((bigSep Finset.univ fun k : CK => atPos ER (kcell (c, k)) 0 ∅ 0) ∗ payToks c)

/-- What device `c`'s body starts from, but for its buffers of fast memory: that at some names, its credits, the levels, and `x`. -/
def start (c : Dev nD) : sProp 𝕄 :=
  iprop((∃ K, records m K ∗ linear c) ∗ cred (tallyAt (barCell c) () 15) ∗ bigSepL dist (fun e => cred (tallyAt (recvCell c (-e)) () N))
    ∗ levAts L lv ∗ xPts m c)

def Φ₀ (c : Dev nD) : sProp 𝕄 := iprop(start m c ∗ (∃ f, vPts c f) ∗ ∃ f, cLoc c ↦{fullShare} f)
def Φ₁ (c : Dev nD) : sProp 𝕄 :=
  iprop(xPts m c ∗ (∃ f, vPts c f) ∗ (∃ f : Buf (Elt F) (cLoc c), cLoc c ↦{fullShare} f) ∗ bigSep Finset.univ fun k : CK => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gAt m c
    | ⟨1, _⟩ => bAt m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

theorem fetch_0 (t : Fin cfg0.N) : (cfg0.win (0 : Fin 3)).fetch t = true := by rw [fin_N t]; rfl
theorem fetch_1 (t : Fin cfg0.N) : (cfg0.win (1 : Fin 3)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The local copy -/

theorem copied_pay (c : Dev nD) (fd : Buf (Elt F) ((c : Thread nD τ).loc cc0_scratch0)) :
    iprop((vM.view.loc (c : Thread nD τ) ↦[vM.view.set]{fullShare} (vM.view.write (Elt F) fd (xM.view.read (Elt F) (xAt m c)) Finset.univ))
        ∗ (xM.view.loc (c : Thread nD τ) ↦[xM.view.set]{fullShare} xAt m c))
      ⊢ (sched (F := F) m).payload (copyCell c) 0 0 := by
  rw [payload_copy]
  refine Entails.of_eq ?_
  unfold vPts xPts
  simp only [Memref.view_whole, View.read_whole]
  rw [show View.write (Elt F) (View.whole cc0_scratch0) fd (xAt m c) Finset.univ = xAt m c from View.write_whole_univ _ _ _]

/-! ## Loads and stores inside slot `0` -/

theorem sum_ld : (cM : Memref sig .tc .vmem S16x2x1024 .f32).view.setOn sumR.toLoadRect.set ⊆ slotSet 0 := by
  rw [show (cM : Memref sig .tc .vmem S16x2x1024 .f32).view.setOn sumR.toLoadRect.set = sumR.set from Finset.map_refl]; exact sum_sub
theorem sq_ld : (cM : Memref sig .tc .vmem S16x2x1024 .f32).view.setOn sqR.toLoadRect.set ⊆ slotSet 0 := by
  rw [show (cM : Memref sig .tc .vmem S16x2x1024 .f32).view.setOn sqR.toLoadRect.set = sqR.set from Finset.map_refl]; exact sq_sub
theorem sum_st : ((cM : Memref sig .tc .vmem S16x2x1024 .f32).access sumR).setOn Finset.univ ⊆ slotSet 0 := by
  rw [View.setOn_univ]; exact sumV_set.subset.trans sum_sub
theorem sq_st : ((cM : Memref sig .tc .vmem S16x2x1024 .f32).access sqR).setOn Finset.univ ⊆ slotSet 0 := by
  rw [View.setOn_univ]; exact sqV_set.subset.trans sq_sub

omit [FloatOps F] in
/-- Slot `0` as elements of the whole buffer. -/
theorem slot0_eq (c : Dev nD) (q : PosShare TreeShare) (f : Buf (Elt F) (cLoc c)) :
    (slotPts c 0 q f : sProp 𝕄) = ((cM : Memref sig .tc .vmem S16x2x1024 .f32).view.loc (c : Thread nD τ) ↦[slotSet 0]{q} f) := rfl

/-! ## The body's run -/

section Body

variable (K : Dev nD × CK → ℕ) (c : Dev nD)

def bodyPre : sProp 𝕄 :=
  iprop(((records m K ∗ linear c) ∗ cred (tallyAt (barCell c) () 15) ∗ bigSepL dist (fun e => cred (tallyAt (recvCell c (-e)) () N))
      ∗ levAts L lv ∗ xPts m c ∗ (∃ f, vPts c f) ∗ ∃ f, cLoc c ↦{fullShare} f)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost : sProp 𝕄 :=
  iprop(Φ₁ m c ∗ (dats m ρ 0 c).owesAt () t₀.succ ∗ stg c cc0_stg0_0 (gAt m c) ∗ stg c cc0_stg1_0 (bAt m c) ∗ stg c cc0_stg2_0 (outAt m c))

set_option maxHeartbeats 400000 in
/-- The body's end, from the buffer of statistics filled: the result, then the waits for the sends. -/
theorem run_tail3 (W : Waits sig Unit) (Q : PUnit → sProp 𝕄) (fb : Buf (Elt F) ((c : Thread nD τ).loc cc0_stg1_0)) (hb : fb = bAt m c)
    (fo : Buf (Elt F) ((c : Thread nD τ).loc cc0_stg2_0)) (hfo : fo = k0_pay4 (xAt m c) (gAt m c)) :
    iprop(records m K ∗ owes (c : Thread nD τ) 0 W
        ∗ slotPts c 0 fullShare.left (cAt m c) ∗ slotPts c 0 (lent 0) (cAt m c) ∗ bigSepL dist (fun e => slotPts c (-e) fullShare (cAt m c))
        ∗ ((c : Thread nD τ).loc cc0_stg1_0 ↦{fullShare} fb) ∗ ((c : Thread nD τ).loc cc0_stg2_0 ↦{fullShare} fo)
        ∗ bigSepL dist (fun e => cred (tallyAt (sendCell c e) () N))
        ∗ bigSepL dist (fun e => atPos ER (sendCell c e) 0 ∅ 0))
      ⊢ iprop((((∃ W', owes (c : Thread nD τ) 0 W') ∗ (cLoc c ↦{fullShare} cAt m c) ∗ stg c cc0_stg1_0 (bAt m c) ∗ stg c cc0_stg2_0 (outAt m c)
            ∗ bigSepL dist (fun e => semVal (sendCell c e) 0)) -∗ Q ⟨⟩) -∗ wpc c (tail3 (xAt m c) (gAt m c)) Q) := by
  subst hb hfo
  iintro ⟨#HR, HO, Hl0, Hr0, Hs, Hb, Ho, Hc, Ha⟩ Hk
  ihave Hs := (slots_halves c (cAt m c)) $$ Hs
  icases Hs with ⟨Hl, Hr⟩
  ihave Hw := (Entails.of_eq ((whole_slots c fullShare.left (cAt m c)).trans (slots_list _)).symm) $$ [Hl0 Hl]
  · isplitl [Hl0]; · iexact Hl0
    iexact Hl
  unfold tail3 wpc
  iapply (wp_load 𝒱₀ (c : Thread nD τ) none Set.univ (m := cM) (Finset.subset_univ _)) $$ Hw; iintro Hw
  rw [read_c]
  iapply (wp_load 𝒱₀ (c : Thread nD τ) none Set.univ (m := bM) (Finset.subset_univ _)) $$ Hb; iintro Hb
  rw [read_b]
  iapply (wp_load 𝒱₀ (c : Thread nD τ) none Set.univ (m := oM) (Finset.subset_univ _)) $$ Ho; iintro Ho
  rw [read_o]
  iapply (wp_load 𝒱₀ (c : Thread nD τ) none Set.univ (m := oM) (Finset.subset_univ _)) $$ Ho; iintro Ho
  iapply (wp_store 𝒱₀ (c : Thread nD τ) none Set.univ (m := oM) (r := bigR) (Mk := Finset.univ) (Finset.subset_univ _)) $$ Ho; iintro Ho
  rw [write_o]
  iapply (wp_sendWaits m K c Q (.ret ⟨⟩) dist dist_ne W) $$ [HO Hc Ha]
  · isplitr; · iexact HR
    isplitl [HO]; · iexact HO
    isplitl [Hc]; · iexact Hc
    iexact Ha
  iintro ⟨HO, Hlent, Hz⟩
  unfold wpc
  rw [wp_ret]; imodintro
  iapply Hk
  isplitl [HO]; · iexact HO
  isplitl [Hw Hr0 Hlent Hr]
  · ihave Hr0 := (Entails.of_eq (slot_lend c 0 (cAt m c)).symm) $$ [Hr0 Hlent]
    · isplitl [Hr0]; · iexact Hr0
      iexact Hlent
    ihave Hwr := (Entails.of_eq ((whole_slots c fullShare.right (cAt m c)).trans (slots_list _)).symm) $$ [Hr0 Hr]
    · isplitl [Hr0]; · iexact Hr0
      iexact Hr
    iapply (pointsTo_share (PosShare.mem_left_op_right fullShare)).2
    isplitl [Hw]; · iexact Hw
    iexact Hwr
  isplitl [Hb]
  · iexists _; isplitr; · (ipureintro; rfl)
    iexact Hb
  isplitl [Ho]
  · iexists _; isplitr; · (ipureintro; rfl)
    iexact Ho
  iexact Hz

set_option maxHeartbeats 400000 in
/-- From the barrier on. -/
theorem run_tail2 (W : Waits sig Unit) (Q : PUnit → sProp 𝕄) (fg : Buf (Elt F) ((c : Thread nD τ).loc cc0_stg0_0)) (hg : fg = gAt m c)
    (fb : Buf (Elt F) ((c : Thread nD τ).loc cc0_stg1_0)) (hb : fb = bAt m c) (fo : Buf (Elt F) ((c : Thread nD τ).loc cc0_stg2_0)) :
    iprop(records m K ∗ owes (c : Thread nD τ) (recvOwed c dist) W ∗ levAts L lv
        ∗ slotPts c 0 fullShare (cAt m c)
        ∗ ((c : Thread nD τ).loc cc0_stg0_0 ↦{fullShare} fg) ∗ ((c : Thread nD τ).loc cc0_stg1_0 ↦{fullShare} fb)
        ∗ ((c : Thread nD τ).loc cc0_stg2_0 ↦{fullShare} fo)
        ∗ cred (tallyAt (barCell c) () 15) ∗ atPos ER (barCell c) 0 ∅ 0
        ∗ bigSepL dist (fun e => dutyTok ER (sendCell c e) 0 0) ∗ bigSepL dist (fun e => dutyTok ER (recvCell (c + e) (-e)) 0 0)
        ∗ bigSepL dist (fun e => cred (tallyAt (recvCell c (-e)) () N)) ∗ bigSepL dist (fun e => atPos ER (recvCell c (-e)) 0 ∅ 0)
        ∗ bigSepL dist (fun e => atPos ER (sendCell c e) 0 ∅ 0))
      ⊢ iprop((((∃ W', owes (c : Thread nD τ) 0 W') ∗ (cLoc c ↦{fullShare} cAt m c) ∗ stg c cc0_stg0_0 (gAt m c) ∗ stg c cc0_stg1_0 (bAt m c)
            ∗ stg c cc0_stg2_0 (outAt m c) ∗ semVal (barCell c) 0
            ∗ bigSepL dist (fun e => semVal (sendCell c e) 0) ∗ bigSepL dist (fun e => semVal (recvCell c (-e)) 0)) -∗ Q ⟨⟩)
          -∗ wpc c (tail2 c (xAt m c)) Q) := by
  subst hg
  iintro ⟨#HR, HO, #Hlev, Hs0, Hg, Hb, Ho, HcB, HaB, HtS, HtV, HcV, HaV, HaS⟩ Hk
  ihave #HIB := (inv_of m K (c, none)) $$ HR
  unfold tail2 wpc
  iapply (Rounds.wp_wait_rest_token 𝒱₀ ER (sched m) (c : Thread nD τ) none (κ := K (c, none))
      (wpE_semWait_eq 𝒱₀ (c : Thread nD τ) none Set.univ) (Set.mem_univ _) () (O := recvOwed c dist) (W := W) (R := 0) (m := 0) (T := ∅)
      (by rw [expect_bar])) $$ [HcB HO HaB]
  · isplitr; · iexact HIB
    isplitl [HcB]; · iexact HcB
    isplitl [HO]; · iexact HO
    isplitr; · iapply (mayWait_bar (F := F) c dist); iexact Hlev
    iexact HaB
  iintro ⟨HO, HaB, -, Hpay⟩
  ihave Hd := (Entails.of_eq (rest_bar m c)) $$ Hpay
  imod (Rounds.cell_close ER (sched m) (Set.mem_univ (K (c, none))) (fun h => h) (R := 0 + 1) (duties_later m (barCell c))) $$ [HaB] with HzB
  · isplitr; · iexact HIB
    iexact HaB
  ihave Hs0 := (slot_halves c 0 (cAt m c)).1 $$ Hs0
  icases Hs0 with ⟨Hl0, Hr0⟩
  ihave Hr0 := (Entails.of_eq (slot_lend c 0 (cAt m c))) $$ Hr0
  icases Hr0 with ⟨Hk0, Hlent⟩
  iapply (wp_sends m K c Q _ _ dist dist_ne) $$ [HO Hlent Hd HtS HtV]
  · isplitr; · iexact HR
    isplitl [HO]; · iexact HO
    isplitl [Hlent]; · iexact Hlent
    isplitl [Hd]; · iexact Hd
    isplitl [HtS]; · iexact HtS
    iexact HtV
  iintro ⟨HcS, HO⟩
  unfold wpc
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Ho; iintro Ho
  iapply (wp_store 𝒱₀ (c : Thread nD τ) none Set.univ (m := oM) (r := bigR) (Mk := Finset.univ) (Finset.subset_univ _)) $$ Ho; iintro Ho
  rw [write_o]
  iapply (wp_recvWaits m K c Q _ dist dist_ne _) $$ [HO HcV HaV]
  · isplitr; · iexact HR
    isplitl [HO]; · iexact HO
    isplitl [HcV]; · iexact HcV
    iexact HaV
  iintro ⟨⟨%W', HO⟩, Hs, HzV⟩
  iapply (run_tail3 m K c W' Q fb hb _ rfl) $$ [HO Hl0 Hk0 Hs Hb Ho HcS HaS]
  · isplitr; · iexact HR
    isplitl [HO]; · iexact HO
    isplitl [Hl0]; · iexact Hl0
    isplitl [Hk0]; · iexact Hk0
    isplitl [Hs]; · iexact Hs
    isplitl [Hb]; · iexact Hb
    isplitl [Ho]; · iexact Ho
    isplitl [HcS]; · iexact HcS
    iexact HaS
  iintro ⟨HO, Hw, Hb, Ho, HzS⟩
  iapply Hk
  isplitl [HO]; · iexact HO
  isplitl [Hw]; · iexact Hw
  isplitl [Hg]
  · iexists _; isplitr; · (ipureintro; rfl)
    iexact Hg
  isplitl [Hb]; · iexact Hb
  isplitl [Ho]; · iexact Ho
  isplitl [HzB]; · iexact HzB
  isplitl [HzS]; · iexact HzS
  iexact HzV

end Body

end Cert.LayerNorm

end
-- ==== Proof.Run.lean ====
/-
# The body run

The whole body from what the launch gives a device to what it leaves, and the pipeline's obligation for it.
-/
module

public import proofs.«01_k».proof.Proof.Body

@[expose] public section

noncomputable section

namespace Cert.LayerNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ) (c : Dev nD)

theorem owed_all : ∀ g u, 0 < (recvOwed c dist) g u → (∃ e, g = recvCell (c + e) (-e)) ∨ ∃ e, g = barCell (c + e) :=
  fun _ _ h => .inl (recvOwed_pos h)

/-- A staging buffer found as the pipeline fetched it. -/
theorem block_0 : (dats m ρ 0 c).blockOf (0 : Fin 3) t₀ = gAt m c := by
  funext j
  unfold Dat.blockOf
  rw [View.read_apply]
  show gAt m c (((cfg0.win (0 : Fin 3)).rect t₀).emb j) = gAt m c j
  refine congrArg _ (funext fun a => Fin.ext ?_)
  fin_cases a
  rw [Rect.emb_apply]
  show 0 * 512 + 1 * (j 0).val = (j 0).val
  omega
theorem block_1 : (dats m ρ 0 c).blockOf (1 : Fin 3) t₀ = bAt m c := by
  funext j
  unfold Dat.blockOf
  rw [View.read_apply]
  show bAt m c (((cfg0.win (1 : Fin 3)).rect t₀).emb j) = bAt m c j
  refine congrArg _ (funext fun a => Fin.ext ?_)
  fin_cases a
  rw [Rect.emb_apply]
  show 0 * 512 + 1 * (j 0).val = (j 0).val
  omega
theorem before_0 (d) : (dats m ρ 0 c).before (0 : Fin 3) t₀ d = gAt m c := by
  unfold Dat.before; rw [if_pos (fetch_0 t₀)]; exact (show _ = (dats m ρ 0 c).blockOf (0 : Fin 3) t₀ from rfl).trans (block_0 m ρ c)
theorem before_1 (d) : (dats m ρ 0 c).before (1 : Fin 3) t₀ d = bAt m c := by
  unfold Dat.before; rw [if_pos (fetch_1 t₀)]; exact (show _ = (dats m ρ 0 c).blockOf (1 : Fin 3) t₀ from rfl).trans (block_1 m ρ c)

theorem slots_any (f : Buf (Elt F) (cLoc c)) (e : Fin 16) :
    (iprop(dutyTok ER (barCell (c + e)) 0 e ∗ slotPts c e fullShare f) : sProp 𝕄) ⊢ iprop(dutyTok ER (barCell (c + e)) 0 e ∗ ∃ f, slotPts c e fullShare f) := by
  iintro ⟨H, Hs⟩
  isplitl [H]; · iexact H
  iexists f; iexact Hs

set_option maxHeartbeats 400000 in
/-- From the local statistics on: they are stored in slot `0`, and the rest follows. -/
theorem run_stats (f : Buf (Elt F) (cLoc c)) (W : Waits sig Unit) (Q : PUnit → sProp 𝕄) (fg : Buf (Elt F) ((c : Thread nD τ).loc cc0_stg0_0)) (hg : fg = gAt m c)
    (fb : Buf (Elt F) ((c : Thread nD τ).loc cc0_stg1_0)) (hb : fb = bAt m c) (fo : Buf (Elt F) ((c : Thread nD τ).loc cc0_stg2_0)) :
    iprop(records m K ∗ owes (c : Thread nD τ) (recvOwed c dist) W ∗ levAts L lv
        ∗ slotPts c 0 fullShare f
        ∗ ((c : Thread nD τ).loc cc0_stg0_0 ↦{fullShare} fg) ∗ ((c : Thread nD τ).loc cc0_stg1_0 ↦{fullShare} fb)
        ∗ ((c : Thread nD τ).loc cc0_stg2_0 ↦{fullShare} fo)
        ∗ cred (tallyAt (barCell c) () 15) ∗ atPos ER (barCell c) 0 ∅ 0
        ∗ bigSepL dist (fun e => dutyTok ER (sendCell c e) 0 0) ∗ bigSepL dist (fun e => dutyTok ER (recvCell (c + e) (-e)) 0 0)
        ∗ bigSepL dist (fun e => cred (tallyAt (recvCell c (-e)) () N)) ∗ bigSepL dist (fun e => atPos ER (recvCell c (-e)) 0 ∅ 0)
        ∗ bigSepL dist (fun e => atPos ER (sendCell c e) 0 ∅ 0))
      ⊢ iprop((((∃ W', owes (c : Thread nD τ) 0 W') ∗ (cLoc c ↦{fullShare} cAt m c) ∗ stg c cc0_stg0_0 (gAt m c) ∗ stg c cc0_stg1_0 (bAt m c)
            ∗ stg c cc0_stg2_0 (outAt m c) ∗ semVal (barCell c) 0
            ∗ bigSepL dist (fun e => semVal (sendCell c e) 0) ∗ bigSepL dist (fun e => semVal (recvCell c (-e)) 0)) -∗ Q ⟨⟩)
          -∗ wpc c (.op (.load cM sumR.toLoadRect (View.loadsAt_vmem h_S1x1x1024)) fun _ =>
          .op (.store cM sumR (k0_pay1 (xAt m c)) Finset.univ (View.stores_vmem_bits_univ h_S1x1x1024 rfl) (.inl rfl)) fun _ =>
          .op (.load cM sqR.toLoadRect (View.loadsAt_vmem h_S1x1x1024)) fun _ =>
          .op (.store cM sqR (k0_pay2 (xAt m c)) Finset.univ (View.stores_vmem_bits_univ h_S1x1x1024 rfl) (.inl rfl)) fun _ =>
          tail2 c (xAt m c)) Q) := by
  iintro ⟨#HR, HO, #Hlev, Hs, HP⟩ Hk
  ihave Hs := (Entails.of_eq (slot0_eq c fullShare f)) $$ Hs
  unfold wpc
  iapply (wp_load 𝒱₀ (c : Thread nD τ) none Set.univ (m := cM) sum_ld) $$ Hs; iintro Hs
  iapply (wp_store 𝒱₀ (c : Thread nD τ) none Set.univ (m := cM) (r := sumR) (Mk := Finset.univ) sum_st) $$ Hs; iintro Hs
  iapply (wp_load 𝒱₀ (c : Thread nD τ) none Set.univ (m := cM) sq_ld) $$ Hs; iintro Hs
  iapply (wp_store 𝒱₀ (c : Thread nD τ) none Set.univ (m := cM) (r := sqR) (Mk := Finset.univ) sq_st) $$ Hs; iintro Hs
  ihave Hs := (Entails.of_eq (pointsTo_congr (stored_eq m c f))) $$ Hs
  iapply (run_tail2 m K c W Q fg hg fb hb fo) $$ [HO Hs HP]
  · isplitr; · iexact HR
    isplitl [HO]; · iexact HO
    isplitr; · iexact Hlev
    isplitl [Hs]; · rw [slot0_eq]; iexact Hs
    iexact HP
  iexact Hk

theorem copy_credit : (vM : Memref sig .tc .vmem S1024x512 .f32).view.amount (.dma copySem) = NX := rfl

/-- The copy of `x` into the local buffer. -/
theorem wp_copy_one (Q : PUnit → sProp 𝕄) {hsrc : xM.view.WordExact} {hdst : vM.view.WordExact}
    {hsem : DmaTarget.Typed (nD := nD) .hbm (.dma copySem) (.here (p := (c : Thread nD τ).2) vM)} {k : PUnit → Body F} (fv : Buf (Elt F) ((c : Thread nD τ).loc cc0_scratch0)) :
    iprop(records m K ∗ xPts m c ∗ vPts c fv ∗ dutyTok ER (copyCell c) 0 0)
      ⊢ iprop((cred (tallyAt (copyCell c) () NX) -∗ wpc c (k ⟨⟩) Q)
          -∗ wpc c (.op (.enqueueDma xM (.here vM) (.dma copySem) hsrc hdst hsem) k) Q) := by
  refine (?_ : _ ⊢ _).trans (Rounds.wp_copy_pointsTo 𝒱₀ ER (sched m) (c : Thread nD τ) none (κ := K (c, some none)) (r := 0) (d := 0) (fd := fv)
    (fs := xAt m c) (q := fullShare)
    (by rw [duties_copy]; exact Finset.mem_singleton_self _) () NX copy_credit (amount_copy m c 0) (by exact copied_pay m c fv))
  unfold xPts vPts
  iintro ⟨#HR, Hx, Hv, Ht⟩
  isplitr; · iapply (inv_of m K (c, some none)); iexact HR
  isplitl [Hx]; · iexact Hx
  isplitl [Hv]; · iexact Hv
  isplitl [Ht]; · iexact Ht
  iapply (mark_of m K (c, some none)); iexact HR

set_option maxHeartbeats 800000 in
/-- The body's run. -/
theorem sound_body (Q : PUnit → sProp 𝕄) :
    iprop(bodyPre m ρ K c ∗ (bodyPost m ρ c -∗ Q ⟨⟩)) ⊢ wpc c (prog (F := F)) Q := by
  unfold bodyPre linear payToks Dat.owesAt Pipeline.owesWithin
  rw [cells_list, show (dats m ρ 0 c).owed t₀.castSucc = O₀ c from rfl]
  iintro ⟨⟨⟨⟨#HR, ⟨HaB, HaC, HaS0, HaV0, HaS, HaV⟩, HtB, HtV, HtS, HtC⟩, HcB, HcV, #Hlev, Hx, ⟨%fv, Hv⟩, ⟨%fc, Hc⟩⟩, ⟨%W, -, HO⟩,
    ⟨%dg, %fg, %hg, Hg⟩, ⟨%db, %fb, %hb, Hb⟩, ⟨%d_o, %fo, -, Ho⟩⟩, Hk⟩
  rw [before_0] at hg
  rw [before_1] at hb
  ihave #HIC := (inv_of m K (c, some none)) $$ HR
  ihave Hc := (Entails.of_eq ((whole_slots c fullShare fc).trans (slots_list' _))) $$ Hc
  icases Hc with ⟨Hs0, Hsl⟩
  unfold prog wpc
  rw [wp_deviceId]
  ihave HBS := (show iprop(bigSepL dist (fun e => dutyTok ER (barCell (c + e)) 0 e) ∗ bigSepL dist (fun e => slotPts c e fullShare fc))
      ⊢ (bigSepL dist (fun e => iprop(dutyTok ER (barCell (c + e)) 0 e ∗ ∃ f, slotPts c e fullShare f)) : sProp 𝕄) from by
        rw [← dist_sep]; exact bigSepL_mono fun e _ => slots_any c fc e) $$ [HtB Hsl]
  · isplitl [HtB]; · iexact HtB
    iexact Hsl
  iapply (wp_sigs m K c Q _ (recvOwed c dist) W dist dist_ne) $$ [HO HBS]
  · isplitr; · iexact HR
    isplitl [HO]; · iexact HO
    iexact HBS
  iintro HO
  unfold wpc
  iapply (wp_copy_one m K c Q fv) $$ [Hx Hv HtC]
  · isplitr; · iexact HR
    isplitl [Hx]; · iexact Hx
    isplitl [Hv]; · iexact Hv
    iexact HtC
  iintro HcC
  iapply (Rounds.wp_wait_rest_token 𝒱₀ ER (sched m) (c : Thread nD τ) none (κ := K (c, some none))
      (wpE_waitDma2_eq 𝒱₀ (c : Thread nD τ) none Set.univ) (Set.mem_univ _) () (O := recvOwed c dist) (W := W) (R := 0) (m := 0) (T := ∅)
      (by rw [Nat.zero_add, expect_copy]; exact copy_credit)) $$ [HcC HO HaC]
  · isplitr; · iexact HIC
    isplitl [HcC]; · iexact HcC
    isplitl [HO]; · iexact HO
    isplitr; · iapply (mayWait_low (F := F) c (.dma copySem) (by rw [decode_copy]; rfl) (recvOwed c dist) (owed_all c)); iexact Hlev
    iexact HaC
  iintro ⟨HO, HaC, -, Hpay⟩
  ihave Hpay := (Entails.of_eq (rest_copy m c)) $$ Hpay
  icases Hpay with ⟨Hv, Hx⟩
  imod (Rounds.cell_close ER (sched m) (Set.mem_univ (K (c, some none))) (fun h => h) (R := 0 + 1) (duties_later m (copyCell c))) $$ [HaC] with HzC
  · isplitr; · iexact HIC
    iexact HaC
  imod (Rounds.cell_close ER (sched m) (Set.mem_univ (K (c, some (some (false, 0))))) (fun h => h) (R := 0) (duties_send0 m c)) $$ [HaS0] with HzS0
  · isplitr; · iapply (inv_of m K (c, some (some (false, 0)))); iexact HR
    iexact HaS0
  imod (Rounds.cell_close ER (sched m) (Set.mem_univ (K (c, some (some (true, 0))))) (fun h => h) (R := 0) (duties_recv0 m c)) $$ [HaV0] with HzV0
  · isplitr; · iapply (inv_of m K (c, some (some (true, 0)))); iexact HR
    iexact HaV0
  unfold vPts
  iapply (wp_load 𝒱₀ (c : Thread nD τ) none Set.univ (m := vM) (View.setOn_subset_set _ _)) $$ Hv; iintro Hv
  rw [read_v]
  iapply (run_stats m K c fc _ Q fg hg fb hb fo) $$ [Hs0 HO Hg Hb Ho HcB HaB HtS HtV HcV HaV HaS]
  · isplitr; · iexact HR
    isplitl [HO]; · iexact HO
    isplitr; · iexact Hlev
    isplitl [Hs0]; · iexact Hs0
    isplitl [Hg]; · iexact Hg
    isplitl [Hb]; · iexact Hb
    isplitl [Ho]; · iexact Ho
    isplitl [HcB]; · iexact HcB
    isplitl [HaB]; · iexact HaB
    isplitl [HtS]; · iexact HtS
    isplitl [HtV]; · iexact HtV
    isplitl [HcV]; · iexact HcV
    isplitl [HaV]; · iexact HaV
    iexact HaS
  iintro ⟨⟨%W', HO⟩, Hc, Hg, Hb, Ho, HzB, HzS, HzV⟩
  iapply Hk
  unfold bodyPost Φ₁ Dat.owesAt Pipeline.owesWithin
  rw [show (dats m ρ 0 c).owed t₀.succ = 0 from rfl, cells_list]
  isplitl [Hx Hv Hc HzB HzC HzS0 HzV0 HzS HzV]
  · isplitl [Hx]; · iexact Hx
    isplitl [Hv]; · iexists (xAt m c); unfold vPts; iexact Hv
    isplitl [Hc]; · iexists (cAt m c); iexact Hc
    isplitl [HzB]; · iexact HzB
    isplitl [HzC]; · iexact HzC
    isplitl [HzS0]; · iexact HzS0
    isplitl [HzV0]; · iexact HzV0
    isplitl [HzS]; · iexact HzS
    iexact HzV
  isplitl [HO]
  · iexists W'
    isplitr; · ipureintro; exact fun _ _ => Or.inl trivial
    iexact HO
  isplitl [Hg]; · iexact Hg
  isplitl [Hb]; · iexact Hb
  iexact Ho

def bodyPre' : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 20000 in
/-- The pipeline's obligation on device `c`. -/
theorem body_obligation : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body xM (Memref.isWhole_whole _) gM (Memref.isWhole_whole _) bM (Memref.isWhole_whole _)
    oM (Memref.isWhole_whole _) vM (Memref.isWhole_whole _) cM (Memref.isWhole_whole _) cc0_scratch2 cc0_scratch3 cc0_scratch4) (fun _ => bodyPost m ρ c)
  rw [body_eq]
  unfold bodyPre' Φ₀ start
  iintro ⟨⟨⟨⟨%K, Hg⟩, H1, H2, H3, H4⟩, Hv, Hc⟩, Ho, Hs0, Hs1, Hs2⟩
  iapply (sound_body m ρ K c fun _ => bodyPost m ρ c)
  unfold bodyPre
  isplitr []
  · isplitl [Hg H1 H2 H3 H4 Hv Hc]
    · isplitl [Hg]; · iexact Hg
      isplitl [H1]; · iexact H1
      isplitl [H2]; · iexact H2
      isplitl [H3]; · iexact H3
      isplitl [H4]; · iexact H4
      isplitl [Hv]; · iexact Hv
      iexact Hc
    isplitl [Ho]; · iexact Ho
    isplitl [Hs0]; · iexact Hs0
    isplitl [Hs1]; · iexact Hs1
    iexact Hs2
  · iintro H; iexact H

end Cert.LayerNorm

end
-- ==== Proof.Launch.lean ====
/-
# The launch

What the sixteen devices start from — the protocol's cells, its tokens dealt to the devices that pay them, the credits owed —, and the
whole program's run: it ends, with each device's block of the result, its arguments as they were and every semaphore at zero.
-/
module

public import proofs.«01_k».proof.Proof.Run
public import Idealize.ShloMosaic.Lib.Pipeline.CollectiveSegs

@[expose] public section

noncomputable section

namespace Cert.LayerNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CK → ℕ) (c : Dev nD)

/-! ## The cells and the tokens -/

theorem ownSemFacts : Pipeline.OwnSemFacts cfg0.spec osem := by decide +kernel

theorem share_eq (c : Dev nD) (w : Fin cfg0.W) : (dats m ρ 0 c).share w = fullShare := by unfold Dat.share; split <;> rfl

theorem csem_injective : Function.Injective csem := fun a b h => Option.some.inj ((decode_csem a).symm.trans ((congrArg decode h).trans (decode_csem b)))
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def cells : Finset (GSem nD τ sig) := Finset.univ.map ⟨kcell, kcell_injective⟩

/-- A device's duties as minted: its barrier's of each distance, the one of each of its own cells. -/
abbrev TK : Type := Fin 16 ⊕ OK
def tokOf (ct : Dev nD × TK) : GSem nD τ sig × ℕ × Fin 16 := match ct.2 with
  | .inl e => (barCell ct.1, 0, e)
  | .inr k => (kcell (ct.1, some k), 0, 0)
theorem tokOf_injective : Function.Injective tokOf := by
  rintro ⟨c, t⟩ ⟨c', t'⟩ h
  have h1 : c = c' := by
    have := congrArg (fun x : GSem nD τ sig × ℕ × Fin 16 => x.1.1.1) h
    cases t <;> cases t' <;> exact this
  have h2 : decode (tokOf (c, t)).1.2 = decode (tokOf (c', t')).1.2 := by rw [h]
  have h3 : (tokOf (c, t)).2.2 = (tokOf (c', t')).2.2 := by rw [h]
  cases t with
  | inl e =>
    cases t' with
    | inl e' => rw [h1, show e = e' from h3]
    | inr k' => rw [show decode (tokOf (c, .inl e)).1.2 = some none from decode_bar, show decode (tokOf (c', .inr k')).1.2 = some (some k') from decode_csem (some k')] at h2; cases h2
  | inr k =>
    cases t' with
    | inl e' => rw [show decode (tokOf (c', .inl e')).1.2 = some none from decode_bar, show decode (tokOf (c, .inr k)).1.2 = some (some k) from decode_csem (some k)] at h2; cases h2
    | inr k' =>
      rw [show decode (tokOf (c', .inr k')).1.2 = some (some k') from decode_csem (some k'), show decode (tokOf (c, .inr k)).1.2 = some (some k) from decode_csem (some k)] at h2
      rw [h1, Option.some.inj (Option.some.inj h2)]
def mint : Finset (GSem nD τ sig × ℕ × Fin 16) := Finset.univ.map ⟨tokOf, tokOf_injective⟩

def u₀ : UU := (initOf (Pipeline.cells cfgs cellOf_inj) (Pipeline.launchToks cfgs cellOf_inj), initOf cells mint)

def tok (x : GSem nD τ sig × ℕ × Fin 16) : sProp 𝕄 := dutyTok ER x.1 x.2.1 x.2.2

/-- The tokens of the duties on device `c`'s own cells; -/
def toks (c : Dev nD) : sProp 𝕄 := bigSep Finset.univ fun t : TK => tok (tokOf (c, t))

omit [FloatOps F] in
/-- by kind. -/
theorem toks_list (c : Dev nD) : (toks c : sProp 𝕄)
    ⊢ iprop(bigSepL dist (fun e => dutyTok ER (barCell c) 0 e) ∗ bigSepL dist (fun e => dutyTok ER (recvCell c (-e)) 0 0)
      ∗ bigSepL dist (fun e => dutyTok ER (sendCell c e) 0 0) ∗ dutyTok ER (copyCell c) 0 0) := by
  unfold toks
  rw [bigSep_eq_bigSepL_of_eq (.inr none :: .inl 0 :: .inr (some (false, 0)) :: .inr (some (true, 0))
      :: (dist.map (fun e => (.inl e : TK)) ++ (dist.map (fun e => (.inr (some (true, -e)) : TK)) ++ dist.map fun e => (.inr (some (false, e)) : TK)))) (by decide) (by decide),
    bigSepL_cons', bigSepL_cons', bigSepL_cons', bigSepL_cons', bigSepL_append, bigSepL_append, bigSepL_map, bigSepL_map, bigSepL_map]
  simp only [tok, tokOf]
  iintro ⟨HC, -, -, -, HB, HV, HS⟩
  isplitl [HB]; · iexact HB
  isplitl [HV]; · iexact HV
  isplitl [HS]; · iexact HS
  iexact HC

/-- What the launch deals device `c`. -/
def G (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ toks c)

/-- What is made of it once every cell has its invariant. -/
def G' (c : Dev nD) : sProp 𝕄 := iprop(∃ K, records m K ∗ linear c)

theorem fund_cells : BI.own (ER (initOf cells mint)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, bigSep_univ_prod]; rfl
  have hT : bigSep mint (fun x => (dutyTok ER x.1 x.2.1 x.2.2 : sProp 𝕄)) = bigSep Finset.univ fun c : Dev nD => toks c := by
    unfold mint; rw [bigSep_map, bigSep_univ_prod]
    exact bigSep_congr fun c _ => by unfold toks tok; rfl
  iintro HX
  imod (Rounds.fund ER (sched m) cells mint) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

omit [FloatOps F] in
/-- The kernel's own semaphores, by kind; -/
theorem ownSems0_eq (c : Dev nD) : (Pipeline.ownSems0 (Ix := Unit) (Name := ℕ) (U := UU) (Lvl := ℕ) (Val := Elt F) (τ := τ) osem c : sProp 𝕄)
    = iprop(semVal (copyCell c) 0 ∗ semVal (sendCell c 0) 0 ∗ semVal (recvCell c 0) 0
      ∗ bigSepL dist (fun e => semVal (sendCell c e) 0) ∗ bigSepL dist fun e => semVal (recvCell c (-e)) 0) := by
  rw [Pipeline.ownSems0_eq_of_list c osem (none :: some (false, 0) :: some (true, 0)
      :: (dist.map (fun e => some (false, e)) ++ dist.map fun e => some (true, -e))) (by decide) (by decide),
    bigSepL_cons', bigSepL_cons', bigSepL_cons', bigSepL_append, bigSepL_map, bigSepL_map]
omit [FloatOps F] in
/-- the barrier is the one that outlives the call. -/
theorem unscopedSems0_eq (c : Dev nD) : (unscopedSems0 c : sProp 𝕄) = semVal (barCell c) 0 := by
  unfold unscopedSems0; rw [bigSep_eq_bigSepL_of_eq [SemLoc.reg barSem] (by decide +kernel) (by decide)]; rfl

omit [FloatOps F] in
theorem sems0_eq (c : Dev nD) :
    iprop(unscopedSems0 c ∗ Pipeline.ownSems0 (Ix := Unit) (Name := ℕ) (U := UU) (Lvl := ℕ) (Val := Elt F) (τ := τ) osem c)
      = (bigSep Finset.univ fun k : CK => semVal (kcell (c, k)) 0 : sProp 𝕄) := by
  rw [ownSems0_eq, unscopedSems0_eq, cells_list]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hus]; · iexact Hus
    iexact Hos
  imod (show iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens dealt around -/

theorem dev_sub_add : ∀ (c : Dev nD) (e : Fin 16), c - e + e = c := by decide +kernel
/-- The devices moved on by `e`. -/
def shift (e : Fin 16) : Dev nD ≃ Dev nD := ⟨(· + e), (· - e), fun c => dev_add_sub c e, fun c => dev_sub_add c e⟩

omit [FloatOps F] in
/-- Something of every device at every distance is something, on every device, of the device at that distance. -/
theorem around (Φ : Dev nD → Fin 16 → sProp 𝕄) : ∀ l : List (Fin 16),
    (bigSep Finset.univ fun c : Dev nD => bigSepL l (Φ c)) = bigSep Finset.univ fun c : Dev nD => bigSepL l fun e => Φ (c + e) e
  | [] => rfl
  | e :: l => by
    simp only [bigSepL_cons']
    rw [bigSep_sep', bigSep_sep', around Φ l, bigSep_univ_equiv (shift e) (fun c => Φ c e)]
    rfl

omit [FloatOps F] in
theorem toks_around : (bigSep Finset.univ fun c : Dev nD => (toks c : sProp 𝕄)) ⊢ bigSep Finset.univ fun c : Dev nD => payToks c := by
  refine (bigSep_mono fun c _ => toks_list (F := F) c).trans ?_
  unfold payToks
  rw [bigSep_sep', bigSep_sep', bigSep_sep', bigSep_sep', around (fun c e => dutyTok ER (barCell c) 0 e) dist,
    around (fun c e => dutyTok ER (recvCell c (-e)) 0 0) dist, bigSep_sep', bigSep_sep']
  exact BI.Entails.refl _

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × CK → ℕ) (c : Dev nD) : iprop(records m K ∗ linear c) ⊢ G' m c := by
  unfold G'
  iintro H
  iexists K; iexact H

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (sched m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m) κ (kcell ck) : sProp 𝕄))) $$ HI
  icases HK with ⟨%K, #HI⟩
  ihave Htk := (toks_around (F := F)) $$ Htok
  iapply (bigSep_with (R := records m K) fun c _ => deal m K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rfl)))
    isplitl [Hat]; · iexact Hat
    iexact Htk

/-- Every device's semaphores and share of the launch, all at once, into every device's invariants, positions and tokens. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

theorem bar_eq_iff {a b : Dev nD} : barCell a = barCell b ↔ a = b :=
  ⟨fun h => congrArg (fun g : GSem nD τ sig => g.1.1) h, fun h => h ▸ rfl⟩
theorem recv_eq_iff {a b : Dev nD} {s t : Fin 16} : recvCell a s = recvCell b t ↔ a = b ∧ s = t :=
  ⟨fun h => ⟨congrArg (fun g : GSem nD τ sig => g.1.1) h, by
    have := congrArg (fun g : GSem nD τ sig => decode g.2) h
    simp only [decode_recv] at this
    cases this; rfl⟩, fun h => by rw [h.1, h.2]⟩
theorem recv_ne_bar (a b : Dev nD) (s : Fin 16) : recvCell a s ≠ barCell b := fun h => by
  have := congrArg (fun g : GSem nD τ sig => decode g.2) h
  simp only [decode_recv, decode_bar] at this
  cases this
theorem dev_eq_add {c d : Dev nD} {e : Fin 16} : c = d + e ↔ d = c - e :=
  ⟨fun h => by rw [h, dev_add_sub], fun h => by rw [h, dev_sub_add]⟩
theorem neg_inj : ∀ {s e : Fin 16}, -s = -e ↔ s = e := by decide +kernel

theorem sum_shift (c : Dev nD) (e : Fin 16) (k : ℕ) : (∑ d : Dev nD, if c = d + e then k else 0) = k := by
  rw [Finset.sum_congr rfl fun d _ => if_congr dev_eq_add rfl rfl, Finset.sum_ite_eq' Finset.univ (c - e) fun _ => k, if_pos (Finset.mem_univ _)]

/-- All devices together owe each barrier a unit of each distance, -/
theorem sum_bar_bar (c : Dev nD) : ∀ l : List (Fin 16), ∑ d : Dev nD, barOwed d l (barCell c) () = l.length
  | [] => Finset.sum_eq_zero fun _ _ => rfl
  | e :: l => by
    have h (d : Dev nD) : barOwed d (e :: l) (barCell c) () = barOwed d l (barCell c) () + if c = d + e then 1 else 0 := by
      rw [barOwed, Pi.add_apply, Finsupp.add_apply, tallyAt_apply]
      exact congrArg _ (if_congr ((and_iff_left rfl).trans bar_eq_iff) rfl rfl)
    rw [Finset.sum_congr rfl fun d _ => h d, Finset.sum_add_distrib, sum_bar_bar c l, sum_shift, List.length_cons]
theorem recv_bar (d c : Dev nD) : ∀ l : List (Fin 16), recvOwed d l (barCell c) () = 0
  | [] => rfl
  | e :: l => by
    rw [recvOwed, Pi.add_apply, Finsupp.add_apply, tallyAt_apply, if_neg fun h => recv_ne_bar _ _ _ h.1.symm, recv_bar d c l]
/-- each arrival semaphore the credit of a send for each time its distance is listed. -/
theorem sum_recv_recv (c : Dev nD) (s : Fin 16) : ∀ l : List (Fin 16), ∑ d : Dev nD, recvOwed d l (recvCell c (-s)) () = l.count s * N
  | [] => by rw [List.count_nil, Nat.zero_mul]; exact Finset.sum_eq_zero fun _ _ => rfl
  | e :: l => by
    have h (d : Dev nD) : recvOwed d (e :: l) (recvCell c (-s)) () = recvOwed d l (recvCell c (-s)) () + if c = d + e then (if s = e then N else 0) else 0 := by
      rw [recvOwed, Pi.add_apply, Finsupp.add_apply, tallyAt_apply, ← ite_and]
      exact congrArg _ (if_congr ((and_iff_left rfl).trans (recv_eq_iff.trans (and_congr_right' neg_inj))) rfl rfl)
    rw [Finset.sum_congr rfl fun d _ => h d, Finset.sum_add_distrib, sum_recv_recv c s l, sum_shift, List.count_cons]
    by_cases hs : s = e
    · subst hs; rw [if_pos rfl, if_pos (by simp), Nat.add_mul, Nat.one_mul]
    · rw [if_neg hs, if_neg (by simpa using fun h => hs h.symm)]; rfl
theorem bar_recv (d c : Dev nD) (s : Fin 16) : ∀ l : List (Fin 16), barOwed d l (recvCell c s) () = 0
  | [] => rfl
  | e :: l => by
    rw [barOwed, Pi.add_apply, Finsupp.add_apply, tallyAt_apply, if_neg fun h => recv_ne_bar _ _ _ h.1, bar_recv d c s l]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  unfold O₀
  rw [Finset.sum_congr rfl fun d _ => show _ = barOwed d dist (barCell c) () from by rw [Pi.add_apply, Finsupp.add_apply, recv_bar, Nat.zero_add], sum_bar_bar]
  rfl
theorem launch_recv (c : Dev nD) : ∀ s ∈ dist,
    tallyOn (recvCell c (-s)) (launchCredit (Pipeline.owing O₀) 0 (recvCell c (-s))) = (tallyAt (recvCell c (-s)) () N : CellTallies nD τ sig Unit) := by
  intro s hs
  unfold tallyAt; refine congrArg _ (Finsupp.ext fun u => ?_); cases u
  rw [Pipeline.launchCredit_owing, Finsupp.single_eq_same]
  unfold O₀
  rw [Finset.sum_congr rfl fun d _ => show _ = recvOwed d dist (recvCell c (-s)) () from by rw [Pi.add_apply, Finsupp.add_apply, bar_recv, Nat.add_zero], sum_recv_recv,
    show dist.count s = 1 from (by decide : ∀ s ∈ dist, dist.count s = 1) s hs, Nat.one_mul]

/-- The arrival semaphores but the unused one. -/
def arrivals : Finset (SemLoc sig) := (dist.map fun e => SemLoc.dma (recvSem (-e))).toFinset

omit [FloatOps F] in
theorem arrivals_list (Φ : SemLoc sig → sProp 𝕄) : bigSep arrivals Φ = bigSepL dist fun e => Φ (.dma (recvSem (-e))) := by
  unfold arrivals
  rw [bigSep_eq_bigSepL_of_eq (dist.map fun e => SemLoc.dma (recvSem (-e))) rfl (by decide +kernel), bigSepL_map]

omit [FloatOps F] in
theorem creds (c : Dev nD) :
    (Pipeline.launchCred O₀ c : sProp 𝕄)
      ⊢ iprop(cred (tallyAt (barCell c) () 15) ∗ bigSepL dist fun e => cred (tallyAt (recvCell c (-e)) () N)) := by
  unfold Pipeline.launchCred
  rw [bigSep_univ_at _ (SemLoc.reg barSem), launch_bar]
  refine sep_mono_right ((bigSep_subset (t := arrivals) ?_ : _ ⊢ _).trans ?_)
  · intro x hx
    refine Finset.mem_erase.mpr ⟨fun h => ?_, Finset.mem_univ _⟩
    unfold arrivals at hx
    rw [List.mem_toFinset] at hx
    obtain ⟨e, -, he⟩ := List.mem_map.mp hx
    rw [← he] at h; cases h
  · rw [arrivals_list]
    exact bigSepL_mono fun e he => by rw [launch_recv c e he]

/-! ## The theorem's side conditions -/

theorem xPts_eq (c : Dev nD) : (xPts m c : sProp 𝕄) = (((c : Thread nD τ).loc main_arg0) ↦{fullShare} m ((c : Thread nD τ).loc main_arg0)) := by
  unfold xPts xAt; simp only [Memref.view_whole, View.set_whole]
omit [FloatOps F] in
theorem vPts_eq (c : Dev nD) (f : Buf (Elt F) ((c : Thread nD τ).loc cc0_scratch0)) :
    (vPts c f : sProp 𝕄) = (((c : Thread nD τ).loc cc0_scratch0) ↦{fullShare} f) := by
  unfold vPts; simp only [Memref.view_whole, View.set_whole]

theorem unscoped_eq (c : Dev nD) :
    (Pipeline.unscopedRestP (Ix := Unit) (Name := ℕ) (U := UU) (Lvl := ℕ) Pipeline.Prefetch.none cfg0.spec c (fun b => m ((c : Thread nD τ).loc b)) : sProp 𝕄) ⊢ xPts m c := by
  refine (Entails.of_eq (?_ : _ = Pipeline.unscopedRest spec0 c (fun b => m ((c : Thread nD τ).loc b)))).trans ?_
  · exact Pipeline.unscopedRestP_none _ _ _
  · rw [unscopedRest0_eq, xPts_eq]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hx, Hlev, Hcr, -, HG⟩
  ihave Hc := (creds (F := F) c) $$ Hcr
  icases Hc with ⟨H1, HN⟩
  ihave Hx := (unscoped_eq m c) $$ Hx
  imodintro
  unfold start G'
  isplitl
  · isplitl [HG]; · iexact HG
    isplitl [H1]; · iexact H1
    isplitl [HN]; · iexact HN
    isplitl [Hlev]; · iexact Hlev
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hv⟩, ⟨%f', Hc⟩⟩
  isplitl [Hs]; · iexact Hs
  isplitl [Hv]; · iexists f; iapply (Entails.of_eq (vPts_eq c f).symm); iexact Hv
  iexists f'; iexact Hc

theorem phi1_exit (c : Dev nD) :
    (dats m ρ 0 c).Φ (Fin.last cfg0.N) ⊢ iprop((unscopedSems0 c ∗ xPts m c) ∗ Pipeline.ownSems0 osem c ∗ Pipeline.scopedRest cfg0.spec c) := by
  rw [show (dats m ρ 0 c).Φ (Fin.last cfg0.N) = Φ₁ m c from rfl, scopedRest0_eq]
  unfold Φ₁
  iintro ⟨Hx, ⟨%f, Hv⟩, ⟨%f', Hc⟩, Hz⟩
  ihave Hz := (Entails.of_eq (sems0_eq (F := F) c).symm) $$ Hz
  icases Hz with ⟨Hu, Ho⟩
  isplitl [Hu Hx]
  · isplitl [Hu]; · iexact Hu
    iexact Hx
  isplitl [Ho]; · iexact Ho
  isplitl [Hv]; · iexists f; iapply (Entails.of_eq (vPts_eq c f)); iexact Hv
  iexists f'; iexact Hc

theorem mayWait_stage (c : Dev nD) (sm : SemLoc sig) (hs : levOf (decode sm) = 0) (O : CellTallies nD τ sig Unit) (hO : O = O₀ c ∨ O = 0) :
    (levAts L lv : sProp 𝕄) ⊢ MayWait (c : Thread nD τ) sm () O := by
  rcases hO with rfl | rfl
  · exact mayWait_low c sm hs (O₀ c) fun _ _ h => O₀_pos h
  · exact mayWait_low c sm hs 0 fun _ _ h => absurd h (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The end of a run: each windowed array at its final contents, and `x` as it was. -/
def QC : PUnit × MemSt nD τ sig (Elt F) → Prop := fun r =>
  (∀ c : Dev nD, ∀ w : Fin cfg0.W, r.2.mem ((cfg0.win w).arr.view.loc (c : Thread nD τ)) = finalA m ρ c w)
    ∧ ∀ c : Dev nD, r.2.mem ((c : Thread nD τ).loc main_arg0) = m ((c : Thread nD τ).loc main_arg0)

/-- What a device hands back is read off the final memory. -/
theorem read_end (c : Dev nD) (s' : Phys nD τ sig (Elt F)) :
    iprop((unscopedSems0 c ∗ xPts m c) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg0) = m ((c : Thread nD τ).loc main_arg0)⌝ ∗ SI s') : sProp 𝕄) := by
  rw [xPts_eq]
  iintro ⟨⟨Hu, Hx⟩, -, HSI⟩
  icombine HSI Hx gives %hx
  imod (Pipeline.unscopedSems0_read (X := unscopedSems0 c) (c := c) fupd_intro s') $$ [Hu HSI] with ⟨%hu, HSI⟩
  · isplitl [Hu]; · iexact Hu
    iexact HSI
  imodintro
  isplitr
  · ipureintro
    exact ⟨hu, funext fun i => hx i (Finset.mem_univ i)⟩
  iexact HSI

set_option maxRecDepth 8000 in
/-- From any memory with every semaphore at zero, every fair execution on the sixteen devices ends, with each windowed
    array at its final contents, `x` unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := glob m)
    (hA := fun _ _ => rfl) (hpf := fun _ k => k.elim0)
    (X := start m) (Y := fun c => iprop(unscopedSems0 c ∗ xPts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg0) = m ((c : Thread nD τ).loc main_arg0))
    (hY := read_end m)
    (hQ := fun _ h hs => ⟨⟨fun c w => (h c).1 w, fun c => (h c).2.2.2⟩, sem_eq_zero hs fun c => (h c).2.2.1⟩)

/-- The arrays of gamma and beta after the run hold what they held. -/
theorem final_g (c : Dev nD) : finalA m ρ c (0 : Fin 3) = m ((c : Thread nD τ).loc main_arg1) :=
  (dats (F := F) m ρ 0 c).arrAt_in (0 : Fin 3) rfl _
theorem final_b (c : Dev nD) : finalA m ρ c (1 : Fin 3) = m ((c : Thread nD τ).loc main_arg2) :=
  (dats (F := F) m ρ 0 c).arrAt_in (1 : Fin 3) rfl _

end Cert.LayerNorm

end
-- ==== Proof.Frames.lean ====
/-
  The claims that the programs run, and the result array.

  `frame_kernel`, `frame_kernel_ideal` and `frame_reference`: from any memory with every semaphore at zero, the program
  ends on every device, its arguments hold what they held, and every semaphore is at zero again. The two kernels are one
  text, so both come from `run_main`; the reference has no semaphore at all. `final_out` says what the kernel's result
  array holds: the launch has one grid point and its one block is the whole array, so it holds what the body left there.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.Pipeline.ValueKit
public import Idealize.ShloMosaic.Lib.Claim

@[expose] public section

noncomputable section

namespace Cert.LayerNorm

open Cert.KernelIdeal Cert.KernelIdeal.Gen
open Idealize.ShloMosaic Idealize.ShloMosaic.TcCoe Idealize.SL Idealize.SL.Sem

/-! ## The result array -/

section Out
variable {F : FTy → Type} [FloatOps F]
variable (m : (ℓ : Loc nD τ sig) → Buf (Elt F) ℓ) (ρ : Dev nD → PrngReg)

/-- The result array after the run holds the normalized block. -/
theorem final_out (c : Dev nD) : finalA m ρ c (2 : Fin 3) = outAt m c := by
  refine (dats m ρ 0 c).arrAt_eq_of_after_last (2 : Fin 3) ⟨0, by decide +kernel⟩ (by decide +kernel : win0_2.WholeAt ⟨0, _⟩) _ fun j => ?_
  blk_simp
  rfl

end Out

/-! ## The frames -/

/-- At any reading of the floats the kernel ends, with its arguments unchanged and every semaphore at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono
    (fun _ h => ⟨fun c => ⟨h.1.2 c, (h.1.1 c 0).trans (final_g m ρ c), (h.1.1 c 1).trans (final_b m ρ c)⟩, h.2⟩)
    (run_main m ρ)

/-- The two printed kernels have one table of bodies, … -/
theorem bodies_eq : Cert.Kernel.defs₀ (F := Bits) = defs₀ (F := Bits) := by
  unfold Cert.Kernel.defs₀ defs₀
  refine congrArg Defs.onTc (funext fun l => funext fun a => ?_)
  match l, a with
  | ⟨0, _⟩, (_, _) => rfl
/-- … and so one program. -/
theorem defs_eq : Cert.Kernel.defs (F := Bits) = defs (F := Bits) := congrArg (Pipeline.defs pcfgs) bodies_eq

/-- The kernel at the machine's words. -/
theorem frame_kernel : Cert.quiescent_Kernel := fun m ρ _ => by
  rw [defs_eq]
  exact frame_any (F := Bits) m ρ

/-- The kernel over the extended reals. -/
theorem frame_kernel_ideal : Cert.quiescent_KernelIdeal := fun m ρ _ => frame_any (F := Ideal) m ρ

/-- The reference over the extended reals: a line of host operations, without a semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.LayerNorm

end
-- ==== Proof.Algebra.lean ====
/-
  The arithmetic of the normalization, over the extended reals.

  The kernel takes each row's sum `S` and sum of squares `Q`, its mean `S / n` and its variance `Q / n - (S / n)²`, and
  multiplies by the reciprocal of the root before it knows `b`'s part: `x g ρ + (b - (S / n) ρ g)`. The reference divides
  `g (x - S / n)` by the root of `∑ (x - S / n)² / n + ε` and adds `b`. For finite `x` and `g` the two are one number,
  whatever `b` is (`normalize_eq`): the two variances are equal and not negative, so that with the positive `ε` the root is
  a positive real, and `b` alone may be infinite.
-/
module

public import Idealize.ShloMosaic.PureOps
public import Idealize.ShloMosaic.PureOps.Ideal
public import Idealize.ShloMosaic.Lib.IdealHost
public import Mathlib.Algebra.BigOperators.Field

@[expose] public section

noncomputable section

namespace Cert.LayerNorm

open Idealize.ShloMosaic
open scoped BigOperators

/-! ## The constants -/

/-- The pattern of `2⁻¹³`, by which the kernel multiplies, … -/
theorem ofBits_inv : Ideal.ofBits .f32 0x39000000#32 = (((1 : ℝ) / 8192 : ℝ) : EReal) := by
  simp [Ideal.ofBits, Ideal.ieee, -EReal.coe_mul]; norm_num
/-- … that of `8192`, by which the reference divides, … -/
theorem ofBits_count : Ideal.ofBits .f32 0x46000000#32 = ((8192 : ℝ) : EReal) := by
  simp [Ideal.ofBits, Ideal.ieee, -EReal.coe_mul]; norm_num
/-- … and that of the `ε` under the root, a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  positivity
/-- The pattern of the infinity with which the precondition compares. -/
theorem ofBits_inf : Ideal.ofBits .f32 0x7F800000#32 = ⊤ := by
  simp [Ideal.ofBits, Ideal.ieee]

/-! ## The two variances -/

/-- The mean of the squares less the square of the mean is the mean of the squared distances from the mean. -/
theorem variance_eq (X : Fin 8192 → ℝ) :
    (∑ k, X k * X k) * (1 / 8192) - (∑ k, X k) * (1 / 8192) * ((∑ k, X k) * (1 / 8192))
      = (∑ k, (X k - (∑ j, X j) / 8192) * (X k - (∑ j, X j) / 8192)) / 8192 := by
  generalize hS : ∑ j, X j = S
  have h : ∀ k, (X k - S / 8192) * (X k - S / 8192) = X k * X k - 2 * (S / 8192) * X k + S / 8192 * (S / 8192) := fun k => by ring
  simp only [h, Finset.sum_add_distrib, Finset.sum_sub_distrib, ← Finset.mul_sum, hS, Finset.sum_const, Finset.card_univ,
    Fintype.card_fin, nsmul_eq_mul]
  push_cast
  ring

/-- That variance is not negative. -/
theorem variance_nonneg (X : Fin 8192 → ℝ) (μ : ℝ) : 0 ≤ (∑ k, (X k - μ) * (X k - μ)) / 8192 :=
  div_nonneg (Finset.sum_nonneg fun _ _ => mul_self_nonneg _) (by norm_num)

/-- A sum of reals, as an extended real. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A quotient of reals whose divisor is not zero. -/
theorem div_real (a : ℝ) {y : ℝ} (h : y ≠ 0) : Ideal.div (a : EReal) (y : EReal) = ((a / y : ℝ) : EReal) := by
  rw [Ideal.div_coe h, ← EReal.coe_mul, mul_one_div]

/-! ## The two normalizations -/

/-- What the kernel makes of an element, its gamma and beta, and its row's sum and sum of squares. -/
def kernelVal (S Q x g b : EReal) : EReal :=
  x * g * Ideal.rsqrt (Q * Ideal.ofBits .f32 0x39000000#32
        - S * Ideal.ofBits .f32 0x39000000#32 * (S * Ideal.ofBits .f32 0x39000000#32) + Ideal.ofBits .f32 0x3727C5AC#32)
    + (b - S * Ideal.ofBits .f32 0x39000000#32
      * Ideal.rsqrt (Q * Ideal.ofBits .f32 0x39000000#32
        - S * Ideal.ofBits .f32 0x39000000#32 * (S * Ideal.ofBits .f32 0x39000000#32) + Ideal.ofBits .f32 0x3727C5AC#32) * g)

/-- What the reference makes of an element, its gamma and beta, and its row; `n` is the count the squares are divided by
    and `z` what stands in for the variance should `n` not be positive. -/
def referenceVal (n z : EReal) (X : Fin 8192 → EReal) (x g b : EReal) : EReal :=
  Ideal.div (g * (x - Ideal.div (∑ k, X k) (Ideal.ofBits .f32 0x46000000#32)))
      (Ideal.sqrt ((if 0 < n then
          Ideal.div (∑ k, (X k - Ideal.div (∑ k, X k) (Ideal.ofBits .f32 0x46000000#32))
            * (X k - Ideal.div (∑ k, X k) (Ideal.ofBits .f32 0x46000000#32))) n
        else z) + Ideal.ofBits .f32 0x3727C5AC#32))
    + b

/-- For a finite row and a finite gamma the two are equal. -/
theorem normalize_eq (z : EReal) (X : Fin 8192 → ℝ) (x g : ℝ) (b : EReal) :
    kernelVal (∑ k, (X k : EReal)) (∑ k, (X k : EReal) * (X k : EReal)) x g b
      = referenceVal ((8192 : ℝ) : EReal) z (fun k => (X k : EReal)) x g b := by
  obtain ⟨ε, hε, he⟩ := ofBits_eps
  have h8 : (8192 : ℝ) ≠ 0 := by norm_num
  unfold kernelVal referenceVal
  rw [ofBits_inv, ofBits_count, he, if_pos (by exact_mod_cast (by norm_num : (0 : ℝ) < 8192))]
  simp only [← EReal.coe_mul, ← coe_sum, div_real _ h8, ← EReal.coe_sub, ← EReal.coe_add]
  rw [variance_eq]
  have hv := variance_nonneg X ((∑ j, X j) / 8192)
  generalize (∑ k, (X k - (∑ j, X j) / 8192) * (X k - (∑ j, X j) / 8192)) / 8192 = v at hv ⊢
  have hp : 0 < v + ε := by linarith
  have hs : Real.sqrt (v + ε) ≠ 0 := (Real.sqrt_pos.2 hp).ne'
  rw [Ideal.rsqrt_coe, Ideal.sqrt_coe, if_neg hp.le.not_gt, if_neg hp.ne', if_neg hp.le.not_gt, div_real _ hs]
  simp only [← EReal.coe_mul, sub_eq_add_neg, ← EReal.coe_neg]
  rw [add_comm b, ← add_assoc, ← EReal.coe_add]
  congr 2
  field_simp

end Cert.LayerNorm

end
-- ==== Proof.Value.lean ====
/-
  The result over the extended reals, read at one element.
-/
module

public import proofs.«01_k».proof.Proof.Sched
public import proofs.«01_k».proof.Proof.Algebra
public import Idealize.ShloMosaic.Lib.Pointwise
public import Idealize.ShloMosaic.Lib.Pipeline.ValueKit.Acc

@[expose] public section

set_option maxRecDepth 16384

noncomputable section

namespace Cert.LayerNorm

open Cert.KernelIdeal Cert.KernelIdeal.Gen
open Idealize.ShloMosaic Idealize.ShloMosaic.TcCoe
open scoped BigOperators

variable (m : (ℓ : Loc nD τ sig) → Buf (Elt Ideal) ℓ)

/-- The index of a row in the vector of statistics, by its three coordinates. -/
theorem at3_eq (r : Fin 1024) : at3 0 0 r = ix3 0 0 r := by
  funext a
  fin_cases a <;> rfl

/-- Row `r`'s sum over a block's columns. -/
theorem sum_at (x : Vec Ideal S1024x512 .f32) (r : Fin 1024) : k0_pay1 x (at3 0 0 r) = ∑ l : Fin 512, x (ix2 r l) := by
  rw [at3_eq]
  pointwise [k0_pay1]

/-- Row `r`'s sum of squares over a block's columns. -/
theorem square_at (x : Vec Ideal S1024x512 .f32) (r : Fin 1024) :
    k0_pay2 x (at3 0 0 r) = ∑ l : Fin 512, x (ix2 r l) * x (ix2 r l) := by
  rw [at3_eq]
  pointwise [k0_pay2]

/-- What the body leaves at row `r` and column `l`, from gamma, beta, the sixteen pairs of statistics and the block. -/
theorem normalized_at (g b : Vec Ideal S512 .f32) (s : Vec Ideal S16x2x1024 .f32) (x : Vec Ideal S1024x512 .f32)
    (r : Fin 1024) (l : Fin 512) :
    k0_pay5 (k0_pay3 g) s b (k0_pay4 x g) (ix2 r l)
      = kernelVal (∑ p : Fin 16, s (ix3 p 0 r)) (∑ p : Fin 16, s (ix3 p 1 r)) (x (ix2 r l)) (g (ix1 l)) (b (ix1 l)) := by
  pointwise [k0_pay3, k0_pay4, k0_pay5]
  rfl

/-- A sum over the sixteen devices does not depend on the device it is counted from. -/
theorem sum_from (c : Dev nD) (f : Dev nD → EReal) : ∑ p : Fin 16, f (c + Fin.ofNat 16 p.val) = ∑ p : Fin 16, f p := by
  have h : ∀ p : Fin 16, Fin.ofNat 16 p.val = p := fun p => Fin.ext (Nat.mod_eq_of_lt p.isLt)
  simp only [h]
  exact Fintype.sum_equiv (Equiv.addLeft c) _ _ fun _ => rfl

/-- Sixteen blocks of 512 columns are the 8192 columns. -/
theorem sum_blocks (f : Fin 8192 → EReal) :
    ∑ p : Fin 16, ∑ l : Fin 512, f ⟨p.val * 512 + l.val, by omega⟩ = ∑ k : Fin 8192, f k := by
  have h := Fin.sum_univ_univ_mul_add 16 512 fun k => if hk : k < 8192 then f ⟨k, hk⟩ else 0
  refine Eq.trans (Finset.sum_congr rfl fun p _ => Finset.sum_congr rfl fun l _ => ?_)
    (h.trans (Finset.sum_congr rfl fun k _ => ?_))
  · rw [dif_pos]
  · exact dif_pos k.isLt

/-- The sums that device `c` forms of the arrived statistics are those over all the devices' columns. -/
theorem sums_at (c : Dev nD) (r : Fin 1024) :
    ∑ p : Fin 16, cAt m c (ix3 p 0 r) = ∑ p : Fin 16, ∑ l : Fin 512, xAt m p (ix2 r l) := by
  rw [← sum_from c fun p => ∑ l : Fin 512, xAt m p (ix2 r l)]
  refine Finset.sum_congr rfl fun p _ => ?_
  rw [← sum_at]
  have h : Fin.ofNat 1024 r.val = r := Fin.ext (Nat.mod_eq_of_lt r.isLt)
  exact congrArg (fun r => k0_pay1 (xAt m (c + Fin.ofNat 16 p.val)) (at3 0 0 r)) h
theorem squares_at (c : Dev nD) (r : Fin 1024) :
    ∑ p : Fin 16, cAt m c (ix3 p 1 r) = ∑ p : Fin 16, ∑ l : Fin 512, xAt m p (ix2 r l) * xAt m p (ix2 r l) := by
  rw [← sum_from c fun p => ∑ l : Fin 512, xAt m p (ix2 r l) * xAt m p (ix2 r l)]
  refine Finset.sum_congr rfl fun p _ => ?_
  rw [← square_at]
  have h : Fin.ofNat 1024 r.val = r := Fin.ext (Nat.mod_eq_of_lt r.isLt)
  exact congrArg (fun r => k0_pay2 (xAt m (c + Fin.ofNat 16 p.val)) (at3 0 0 r)) h

end Cert.LayerNorm

end
-- ==== Proof.Reference.lean ====
/-
  The reference's result, in named steps, and read at one element (`refOut_at`).
-/
module

public import proofs.«01_k».proof.Proof.Gen.ReferenceIdeal.Run
public import proofs.«01_k».proof.Proof.Algebra
public import Idealize.ShloMosaic.Lib.Pointwise

@[expose] public section

set_option maxRecDepth 16384

noncomputable section

namespace Cert.LayerNorm.Reference

open Cert.ReferenceIdeal Cert.ReferenceIdeal.Gen
open Idealize.ShloMosaic Idealize.ShloMosaic.TcCoe Idealize.SL.Sem
open scoped BigOperators

/-- The rows' means, as a column. -/
def meanOf (x : FVec Ideal S1024x8192 .f32) : FVec Ideal S1024x1 .f32 :=
  Host.divf (broadcastInDim S1024x1 ![0] bcast_S1024_S1024x1_0
      (Host.reduceAdd x (constant S_ .f32 0x00000000#32) reducesTo_S1024x8192_S1024_d1 h_S_))
    (broadcastInDim S1024x1 ![] bcast_S_S1024x1 (constant S_ .f32 0x46000000#32))

/-- Each element less its row's mean. -/
def centred (x : FVec Ideal S1024x8192 .f32) : FVec Ideal S1024x8192 .f32 :=
  subf x (broadcastInDim S1024x8192 ![0, 1] bcast_S1024x1_S1024x8192_0_1 (meanOf x))

/-- What the squares are divided by: the number of the columns, less a correction of zero. -/
def countOf : FVec Ideal S_ .f32 := subf (constant S_ .f32 0x46000000#32) (sitofp .f32 (constantI S_ 32 0#32))

/-- The rows' variances, as a column, replaced by a constant should the count not be positive. -/
def varOf (x : FVec Ideal S1024x8192 .f32) : FVec Ideal S1024x1 .f32 :=
  select (broadcastInDim S1024x1 ![] bcast_S_S1024x1 (cmpf .ogt countOf (constant S_ .f32 0x00000000#32)))
    (Host.divf (broadcastInDim S1024x1 ![0] bcast_S1024_S1024x1_0
        (Host.reduceAdd (mulf (centred x) (centred x)) (constant S_ .f32 0x00000000#32) reducesTo_S1024x8192_S1024_d1 h_S_))
      (broadcastInDim S1024x1 ![] bcast_S_S1024x1 countOf))
    (broadcastInDim S1024x1 ![] bcast_S_S1024x1 (id (constant S_ .f32 0x7FC00000#32)))

/-- The reference's result. -/
def refOut (x : FVec Ideal S1024x8192 .f32) (g b : FVec Ideal S8192 .f32) : FVec Ideal S1024x8192 .f32 :=
  addf (Host.divf
      (mulf (broadcastInDim S1024x8192 ![0, 1] bcast_S1x8192_S1024x8192_0_1 (broadcastInDim S1x8192 ![1] bcast_S8192_S1x8192_1 g))
        (centred x))
      (broadcastInDim S1024x8192 ![0, 1] bcast_S1024x1_S1024x8192_0_1
        (Host.sqrt (addf (varOf x) (broadcastInDim S1024x1 ![] bcast_S_S1024x1 (constant S_ .f32 0x3727C5AC#32))))))
    (broadcastInDim S1024x8192 ![0, 1] bcast_S1x8192_S1024x8192_0_1 (broadcastInDim S1x8192 ![1] bcast_S8192_S1x8192_1 b))

/-- The count that the squares are divided by is that of the columns. -/
theorem count_eq : Ideal.ofBits .f32 0x46000000#32 - FloatOps.sitofp (F := Ideal) .f32 0#32 = ((8192 : ℝ) : EReal) := by
  rw [ofBits_count, show FloatOps.sitofp (F := Ideal) .f32 0#32 = 0 from by simp [FloatOps.sitofp], sub_zero]

/-- The result at row `r` and column `k`. -/
theorem refOut_at (x : FVec Ideal S1024x8192 .f32) (g b : FVec Ideal S8192 .f32) (r : Fin 1024) (k : Fin 8192) :
    refOut x g b (ix2 r k) = referenceVal ((8192 : ℝ) : EReal) (id (constant S_ .f32 0x7FC00000#32 : FVec Ideal S_ .f32) ix0)
      (fun j => x (ix2 r j)) (x (ix2 r k)) (g (ix1 k)) (b (ix1 k)) := by
  pointwise [refOut, varOf, countOf, centred, meanOf]
  rw [count_eq]
  rfl

/-- Every run of the reference ends with its result at `refOut` of the arguments, and the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.LayerNorm.Reference

end
-- ==== Proof.Algebraic.lean ====
/-
  The claim that the kernel computes what the reference does, over the extended reals.

  The precondition, read at an element, says that `x` and `gamma` hold reals (`real_x`, `real_g`). Each device's block is
  its 512 columns of the whole array, so the sums the device forms are those over the 8192 columns, and its element is the
  reference's by `normalize_eq` (`out_eq`).
-/
module

public import proofs.«01_k».proof.Proof.Frames
public import proofs.«01_k».proof.Proof.Value
public import proofs.«01_k».proof.Proof.Reference
public import proofs.«01_k».proof.Proof.Gen.Pre_finite_inputs_KernelIdeal
public import Idealize.ShloMosaic.Lib.LayoutAt
public import Idealize.ShloMosaic.Lib.ReduceAll
public import Idealize.ShloMosaic.Lib.Affine

@[expose] public section

set_option maxRecDepth 16384

noncomputable section

namespace Cert.LayerNorm

open Cert.KernelIdeal Cert.KernelIdeal.Gen
open Idealize.ShloMosaic Idealize.ShloMosaic.TcCoe Idealize.SL Idealize.SL.Sem
open scoped BigOperators

/-! ## The precondition at an element -/

/-- A number whose absolute value the comparison finds below the infinity is a real. -/
theorem real_of_lt (v : EReal) (h : Ideal.cmp .olt (max v (-v)) (Ideal.ofBits .f32 0x7F800000#32) = 1#1) :
    ∃ a : ℝ, v = (a : EReal) := by
  rw [ofBits_inf] at h
  have hlt : max v (-v) < ⊤ := by
    by_contra hn
    simp [Ideal.cmp, hn] at h
  induction v with
  | bot => simp at hlt
  | top => simp at hlt
  | coe a => exact ⟨a, rfl⟩

variable (m : (ℓ : Loc nD τ sig) → Buf (Elt Ideal) ℓ)

/-- The precondition, of the two arrays it reads. -/
theorem pre_all (h : Cert.Pre_KernelIdeal_finite_inputs_KernelIdeal m) (c : Dev nD) :
    (∀ i, ∃ a : ℝ, xAt m c i = (a : EReal)) ∧ ∀ i, ∃ a : ℝ, gAt m c i = (a : EReal) := by
  obtain ⟨hx, hg⟩ := IntOp.andi_eq_one.1 (congrFun (h c) ix0)
  haveI : Subsingleton Cert.Pre_finite_inputs_KernelIdeal.S_.Idx := ⟨fun _ _ => funext fun a => a.elim0⟩
  exact ⟨fun i => real_of_lt _ (Host.reduce_andi_all _ _ _ _ _ hx i), fun i => real_of_lt _ (Host.reduce_andi_all _ _ _ _ _ hg i)⟩

/-! ## A block's place in the whole array -/

/-- Column `l` of device `c`'s block. -/
def column (c : Fin 16) (l : Fin 512) : Fin 8192 := ⟨c.val * 512 + l.val, by omega⟩

theorem block_two {α : Type} (c : Fin 16) (X : Shape.Idx ⟨2, ![1024, 8192]⟩ → α) (r : Fin 1024) (l : Fin 512) :
    Layout.block ⟨2, ![1024, 512]⟩ ⟨2, ![1024, 8192]⟩ 1 16 c X (by decide) (ix2 r l) = X (ix2 r (column c l)) := by
  unfold column
  shard_ext
theorem block_one {α : Type} (c : Fin 16) (X : Shape.Idx ⟨1, ![8192]⟩ → α) (l : Fin 512) :
    Layout.block ⟨1, ![512]⟩ ⟨1, ![8192]⟩ 0 16 c X (by decide) (ix1 l) = X (ix1 (column c l)) := by
  unfold column
  shard_ext

/-- Every column lies in some device's block. -/
theorem column_surj (k : Fin 8192) : ∃ (c : Fin 16) (l : Fin 512), k = column c l :=
  ⟨⟨k.val / 512, by omega⟩, ⟨k.val % 512, by omega⟩, Fin.ext (Nat.div_add_mod' k.val 512).symm⟩

/-! ## The two results -/

section Equal
variable (X : FVec Ideal Cert.ReferenceIdeal.S1024x8192 .f32) (G B : FVec Ideal Cert.ReferenceIdeal.S8192 .f32)

/-- Device `c`'s result is its block of the reference's. -/
theorem out_eq (h : Cert.Pre_KernelIdeal_finite_inputs_KernelIdeal m)
    (hX : ∀ c : Dev nD, xAt m c = Layout.block ⟨2, ![1024, 512]⟩ ⟨2, ![1024, 8192]⟩ 1 16 c X (by decide))
    (hG : ∀ c : Dev nD, gAt m c = Layout.block ⟨1, ![512]⟩ ⟨1, ![8192]⟩ 0 16 c G (by decide))
    (hB : ∀ c : Dev nD, bAt m c = Layout.block ⟨1, ![512]⟩ ⟨1, ![8192]⟩ 0 16 c B (by decide)) (c : Dev nD) :
    outAt m c = Layout.block ⟨2, ![1024, 512]⟩ ⟨2, ![1024, 8192]⟩ 1 16 c (Reference.refOut X G B) (by decide) := by
  have hx : ∀ p r l, xAt m p (ix2 r l) = X (ix2 r (column p l)) := fun p r l => by rw [hX, block_two]
  have hg : ∀ l, gAt m c (ix1 l) = G (ix1 (column c l)) := fun l => by rw [hG, block_one]
  have hb : ∀ l, bAt m c (ix1 l) = B (ix1 (column c l)) := fun l => by rw [hB, block_one]
  funext i
  obtain ⟨r, l, rfl⟩ : ∃ (r : Fin 1024) (l : Fin 512), i = ix2 r l := ⟨i 0, i 1, eq_ix2 i⟩
  have hreal : ∀ k, ∃ a : ℝ, X (ix2 r k) = (a : EReal) := fun k => by
    obtain ⟨p, l, rfl⟩ := column_surj k
    rw [← hx]
    exact (pre_all m h p).1 _
  obtain ⟨gr, hgr⟩ := (pre_all m h c).2 (ix1 l)
  choose Xr hXr using hreal
  rw [block_two, Reference.refOut_at, ← hg, hgr]
  refine (normalized_at _ _ _ _ r l).trans ?_
  rw [sums_at, squares_at, hgr, hb]
  simp only [hx]
  rw [show (∑ p : Fin 16, ∑ l : Fin 512, X (ix2 r (column p l))) = ∑ k, X (ix2 r k) from sum_blocks fun k => X (ix2 r k),
    show (∑ p : Fin 16, ∑ l : Fin 512, X (ix2 r (column p l)) * X (ix2 r (column p l))) = ∑ k, X (ix2 r k) * X (ix2 r k) from
      sum_blocks fun k => X (ix2 r k) * X (ix2 r k)]
  simp only [hXr]
  exact normalize_eq _ Xr _ gr _

end Equal

/-- The kernel's results are the blocks of the reference's, both programs run, and their arguments end unchanged. -/
theorem algebraic : Cert.algebraic_KernelIdeal_ReferenceIdeal_pre_finite_inputs_KernelIdeal :=
  fun m ρ m' ρ' hpre hargs =>
    ⟨_, (θ_run defs _ _).mono
      (fun _ h c => ⟨((h.1.1 c 2).trans (final_out m ρ c)).trans
          (out_eq m _ _ _ hpre (fun c => (hargs c).1) (fun c => (hargs c).2.1) (fun c => (hargs c).2.2) c),
        h.1.2 c, (h.1.1 c 0).trans (final_g m ρ c), (h.1.1 c 1).trans (final_b m ρ c)⟩)
      (run_main m ρ),
    (θ_run Cert.ReferenceIdeal.defs _ _).mono (fun _ h => h 0) (Reference.run_ref m' ρ')⟩

end Cert.LayerNorm

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_inputs_KernelIdeal
public import proofs.«01_k».proof.Proof.Gen.Pre_finite_inputs_ReferenceIdeal
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.Pre_finite_inputs_KernelIdeal.Gen.facts, Cert.Pre_finite_inputs_ReferenceIdeal.Gen.facts,
    Cert.LayerNorm.frame_kernel,
    Cert.LayerNorm.frame_kernel_ideal, fun m ρ _ => Cert.LayerNorm.frame_kernel_ideal m ρ trivial,
    Cert.LayerNorm.frame_reference, fun m ρ _ => Cert.LayerNorm.frame_reference m ρ trivial,
    trivial, Cert.LayerNorm.algebraic⟩

end Cert.Proof

end
